-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![512, 1024]⟩ ⟨2, ![8192, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![8192, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x1024 : Shape := ⟨2, ![1024, 1024]⟩
abbrev S2048x1024 : Shape := ⟨2, ![2048, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S512x1024 .bf16) (main_arg1 : FVec F S1024x1024 .bf16) (main_arg2 : FVec F S1024x1024 .bf16) (main_arg3 : FVec F S2048x1024 .bf16) (main_arg4 : FVec F S2048x1024 .bf16) : IVec S_ 1 :=
  let main_v0 : FVec F S512x1024 .bf16 := Host.absf main_arg0
  let main_cst : FVec F S_ .bf16 := constant S_ .bf16 0x7F80#16
  let main_v1 : FVec F S512x1024 .bf16 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2048x1024 .bf16 := Host.absf main_arg3
  let main_cst_2 : FVec F S_ .bf16 := constant S_ .bf16 0x7F80#16
  let main_v10 : FVec F S2048x1024 .bf16 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Pre_finite_ReferenceIdeal.lean ====
abbrev S8192x1024 : Shape := ⟨2, ![8192, 1024]⟩
abbrev S1024x16384 : Shape := ⟨2, ![1024, 16384]⟩
abbrev S16384x1024 : Shape := ⟨2, ![16384, 1024]⟩
abbrev S2048x16384 : Shape := ⟨2, ![2048, 16384]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S2048x16384 : S_.BroadcastsInDim S2048x16384 (![] : Fin 0 → Fin S2048x16384.rank)
  reducesTo_S2048x16384_S_d0_1 : S2048x16384.ReducesTo [0, 1] S_

variable [Facts]

def fn {F : FTy → Type} [FloatOps F] (main_arg0 : FVec F S8192x1024 .bf16) (main_arg1 : FVec F S1024x16384 .bf16) (main_arg2 : FVec F S16384x1024 .bf16) (main_arg3 : FVec F S2048x16384 .bf16) (main_arg4 : FVec F S2048x16384 .bf16) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x16384 .bf16 := Host.absf main_arg1
  let main_cst_0 : FVec F S_ .bf16 := constant S_ .bf16 0x7F80#16
  let main_v5 : FVec F S1024x16384 .bf16 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S2048x16384 .bf16 := Host.absf main_arg3
  let main_cst_2 : FVec F S_ .bf16 := constant S_ .bf16 0x7F80#16
  let main_v10 : FVec F S2048x16384 .bf16 := broadcastInDim S2048x16384 ![] bcast_S_S2048x16384 main_cst_2
  let main_v11 : IVec S2048x16384 1 := cmpf .olt main_v9 main_v10
  let main_c_3 : IVec S_ 1 := constantI S_ 1 1#1
  let main_v12 : IVec S_ 1 := (fun x v => Host.reduce IntOp.andi x v reducesTo_S2048x16384_S_d0_1 h_S_) main_v11 main_c_3
  let main_v13 : IVec S_ 1 := andi main_v8 main_v12
  main_v13
-- ==== Kernel.lean ====
abbrev S512x1024 : Shape := ⟨2, ![512, 1024]⟩
abbrev S1024x1024 : Shape := ⟨2, ![1024, 1024]⟩
abbrev S2048x1024 : Shape := ⟨2, ![2048, 1024]⟩
abbrev S16x512x1024 : Shape := ⟨3, ![16, 512, 1024]⟩
abbrev S16 : Shape := ⟨1, ![16]⟩
abbrev S_ : Shape := ⟨0, ![]⟩
abbrev S1x512x1024 : Shape := ⟨3, ![1, 512, 1024]⟩
abbrev S1 : Shape := ⟨1, ![1]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S1024x1024, .bf16⟩
  | .hbm, ⟨3, _⟩ => ⟨S2048x1024, .bf16⟩
  | .hbm, ⟨4, _⟩ => ⟨S2048x1024, .bf16⟩
  | .hbm, ⟨5, _⟩ => ⟨S512x1024, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S16x512x1024, .bf16⟩
  | .local _ .vmem, ⟨7, _⟩ => ⟨S16x512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (c0_i32_14 : BitVec 32) : Fin 1 → Nat :=
  let c16_i32_15 : BitVec 32 := 16#32
  let v18 : BitVec 32 := Scalar.remsi c0_i32_14 c16_i32_15
  ![v18.toNat]
def k0_off1_at (r : Fin 4) : BitVec 32 :=
  if r.val < 2 then
    if r.val < 1 then
      0#32
    else
      1#32
  else
    if r.val < 3 then
      16#32
    else
      15#32
def k0_off2 (c1_i32_16 : BitVec 32) : Fin 3 → Nat :=
  let c16_i32_17 : BitVec 32 := 16#32
  let v19 : BitVec 32 := Scalar.remsi c1_i32_16 c16_i32_17
  let c0_i32_20 : BitVec 32 := 0#32
  let c0_i32_21 : BitVec 32 := 0#32
  ![v19.toNat, 0, 0]
def k0_off2_at (r : Fin 4) : BitVec 32 :=
  if r.val < 2 then
    if r.val < 1 then
      1#32
    else
      0#32
  else
    if r.val < 3 then
      16#32
    else
      15#32
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_18 : BitVec 32 := 1#32
  let v20 : BitVec 32 := Scalar.muli v7 c1_i32_18
  let v21 : BitVec 32 := Scalar.addi c0_i32_19 v20
  v21.toNat
def k0_dev4 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_96 : BitVec 32 := 1#32
  let v173 : BitVec 32 := Scalar.muli v7 c1_i32_96
  let v174 : BitVec 32 := Scalar.addi c0_i32_97 v173
  v174.toNat
@[reducible] def k0_t1_loop : Scf.Loop 32 :=
  let c1_i32_102 : BitVec 32 := 1#32
  let c15_i32 : BitVec 32 := 15#32
  let v183 : BitVec 32 := Scalar.addi c1_i32_102 c15_i32
  let c1_i32_103 : BitVec 32 := 1#32
  ⟨c1_i32_102, v183, c1_i32_103⟩
def k0_off3 (k0_t1 : Fin k0_t1_loop.trips) : Fin 1 → Nat :=
  let c1_i32_102 : BitVec 32 := 1#32
  let c1_i32_103 : BitVec 32 := 1#32
  let arg12 : BitVec 32 := Scf.iv c1_i32_102 c1_i32_103 k0_t1
  let c1_i32_130 : BitVec 32 := 1#32
  let v206 : BitVec 32 := Scalar.subi arg12 c1_i32_130
  let c1_i32_132 : BitVec 32 := 1#32
  let v208 : BitVec 32 := Scalar.addi v206 c1_i32_132
  let c16_i32_133 : BitVec 32 := 16#32
  let v209 : BitVec 32 := Scalar.remsi v208 c16_i32_133
  ![v209.toNat]
def k0_off4 (k0_t1 : Fin k0_t1_loop.trips) : Fin 3 → Nat :=
  let c1_i32_102 : BitVec 32 := 1#32
  let c1_i32_103 : BitVec 32 := 1#32
  let arg12 : BitVec 32 := Scf.iv c1_i32_102 c1_i32_103 k0_t1
  let c1_i32_130 : BitVec 32 := 1#32
  let v206 : BitVec 32 := Scalar.subi arg12 c1_i32_130
  let c1_i32_132 : BitVec 32 := 1#32
  let v208 : BitVec 32 := Scalar.addi v206 c1_i32_132
  let c16_i32_133 : BitVec 32 := 16#32
  let v209 : BitVec 32 := Scalar.remsi v208 c16_i32_133
  let c0_i32_136 : BitVec 32 := 0#32
  let c0_i32_137 : BitVec 32 := 0#32
  ![v209.toNat, 0, 0]
def k0_off5 (k0_t1 : Fin k0_t1_loop.trips) : Fin 3 → Nat :=
  let c1_i32_102 : BitVec 32 := 1#32
  let c1_i32_103 : BitVec 32 := 1#32
  let arg12 : BitVec 32 := Scf.iv c1_i32_102 c1_i32_103 k0_t1
  let c1_i32_130 : BitVec 32 := 1#32
  let v206 : BitVec 32 := Scalar.subi arg12 c1_i32_130
  let c16_i32_131 : BitVec 32 := 16#32
  let v207 : BitVec 32 := Scalar.remsi v206 c16_i32_131
  let c0_i32_138 : BitVec 32 := 0#32
  let c0_i32_139 : BitVec 32 := 0#32
  ![v207.toNat, 0, 0]
def k0_off6 (k0_t1 : Fin k0_t1_loop.trips) : Fin 1 → Nat :=
  let c1_i32_102 : BitVec 32 := 1#32
  let c1_i32_103 : BitVec 32 := 1#32
  let arg12 : BitVec 32 := Scf.iv c1_i32_102 c1_i32_103 k0_t1
  let c1_i32_140 : BitVec 32 := 1#32
  let v218 : BitVec 32 := Scalar.subi arg12 c1_i32_140
  let c16_i32_141 : BitVec 32 := 16#32
  let v219 : BitVec 32 := Scalar.remsi v218 c16_i32_141
  ![v219.toNat]
def k0_cond1 (k0_t1 : Fin k0_t1_loop.trips) : BitVec 1 :=
  let c1_i32_102 : BitVec 32 := 1#32
  let c1_i32_103 : BitVec 32 := 1#32
  let arg12 : BitVec 32 := Scf.iv c1_i32_102 c1_i32_103 k0_t1
  let c15_i32_149 : BitVec 32 := 15#32
  let v228 : BitVec 1 := Scalar.cmpi .slt arg12 c15_i32_149
  let v229 : BitVec 32 := Scalar.extui v228
  let c0_i32_150 : BitVec 32 := 0#32
  let v230 : BitVec 1 := Scalar.cmpi .ne v229 c0_i32_150
  v230

def k0_off7 (k0_t1 : Fin k0_t1_loop.trips) : Fin 1 → Nat :=
  let c1_i32_102 : BitVec 32 := 1#32
  let c1_i32_103 : BitVec 32 := 1#32
  let arg12 : BitVec 32 := Scf.iv c1_i32_102 c1_i32_103 k0_t1
  let c16_i32_255 : BitVec 32 := 16#32
  let v413 : BitVec 32 := Scalar.remsi arg12 c16_i32_255
  ![v413.toNat]
def k0_off8 (k0_t1 : Fin k0_t1_loop.trips) : Fin 1 → Nat :=
  let c1_i32_102 : BitVec 32 := 1#32
  let c1_i32_103 : BitVec 32 := 1#32
  let arg12 : BitVec 32 := Scf.iv c1_i32_102 c1_i32_103 k0_t1
  let c1_i32_256 : BitVec 32 := 1#32
  let v414 : BitVec 32 := Scalar.addi arg12 c1_i32_256
  let c16_i32_257 : BitVec 32 := 16#32
  let v415 : BitVec 32 := Scalar.remsi v414 c16_i32_257
  ![v415.toNat]
def k0_off9 (k0_t1 : Fin k0_t1_loop.trips) : Fin 3 → Nat :=
  let c1_i32_102 : BitVec 32 := 1#32
  let c1_i32_103 : BitVec 32 := 1#32
  let arg12 : BitVec 32 := Scf.iv c1_i32_102 c1_i32_103 k0_t1
  let c1_i32_256 : BitVec 32 := 1#32
  let v414 : BitVec 32 := Scalar.addi arg12 c1_i32_256
  let c16_i32_257 : BitVec 32 := 16#32
  let v415 : BitVec 32 := Scalar.remsi v414 c16_i32_257
  let c0_i32_260 : BitVec 32 := 0#32
  let c0_i32_261 : BitVec 32 := 0#32
  ![v415.toNat, 0, 0]
def k0_off10 (k0_t1 : Fin k0_t1_loop.trips) : Fin 3 → Nat :=
  let c1_i32_102 : BitVec 32 := 1#32
  let c1_i32_103 : BitVec 32 := 1#32
  let arg12 : BitVec 32 := Scf.iv c1_i32_102 c1_i32_103 k0_t1
  let c16_i32_255 : BitVec 32 := 16#32
  let v413 : BitVec 32 := Scalar.remsi arg12 c16_i32_255
  let c0_i32_262 : BitVec 32 := 0#32
  let c0_i32_263 : BitVec 32 := 0#32
  ![v413.toNat, 0, 0]
def k0_dev5 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_258 : BitVec 32 := 1#32
  let v416 : BitVec 32 := Scalar.muli v7 c1_i32_258
  let v417 : BitVec 32 := Scalar.addi c0_i32_259 v416
  v417.toNat
def k0_off11 (k0_t1 : Fin k0_t1_loop.trips) : Fin 3 → Nat :=
  let c1_i32_102 : BitVec 32 := 1#32
  let c1_i32_103 : BitVec 32 := 1#32
  let arg12 : BitVec 32 := Scf.iv c1_i32_102 c1_i32_103 k0_t1
  let c16_i32_129 : BitVec 32 := 16#32
  let v205 : BitVec 32 := Scalar.remsi arg12 c16_i32_129
  let v231 : Index := Scalar.indexCast v205
  let c0_151 : Index := 0#32
  let c0_152 : Index := 0#32
  ![v231.toNat, 0, 0]
def k0_off12 (k0_t1 : Fin k0_t1_loop.trips) : Fin 1 → Nat :=
  let c1_i32_102 : BitVec 32 := 1#32
  let c1_i32_103 : BitVec 32 := 1#32
  let arg12 : BitVec 32 := Scf.iv c1_i32_102 c1_i32_103 k0_t1
  let c16_i32_246 : BitVec 32 := 16#32
  let v400 : BitVec 32 := Scalar.remsi arg12 c16_i32_246
  ![v400.toNat]
def k0_off13 (k0_t1 : Fin k0_t1_loop.trips) : Fin 1 → Nat :=
  let c1_i32_102 : BitVec 32 := 1#32
  let c1_i32_103 : BitVec 32 := 1#32
  let arg12 : BitVec 32 := Scf.iv c1_i32_102 c1_i32_103 k0_t1
  let c1_i32_247 : BitVec 32 := 1#32
  let v401 : BitVec 32 := Scalar.addi arg12 c1_i32_247
  let c16_i32_248 : BitVec 32 := 16#32
  let v402 : BitVec 32 := Scalar.remsi v401 c16_i32_248
  ![v402.toNat]
def k0_off14 (k0_t1 : Fin k0_t1_loop.trips) : Fin 3 → Nat :=
  let c1_i32_102 : BitVec 32 := 1#32
  let c1_i32_103 : BitVec 32 := 1#32
  let arg12 : BitVec 32 := Scf.iv c1_i32_102 c1_i32_103 k0_t1
  let c1_i32_247 : BitVec 32 := 1#32
  let v401 : BitVec 32 := Scalar.addi arg12 c1_i32_247
  let c16_i32_248 : BitVec 32 := 16#32
  let v402 : BitVec 32 := Scalar.remsi v401 c16_i32_248
  let c0_i32_251 : BitVec 32 := 0#32
  let c0_i32_252 : BitVec 32 := 0#32
  ![v402.toNat, 0, 0]
def k0_off15 (k0_t1 : Fin k0_t1_loop.trips) : Fin 3 → Nat :=
  let c1_i32_102 : BitVec 32 := 1#32
  let c1_i32_103 : BitVec 32 := 1#32
  let arg12 : BitVec 32 := Scf.iv c1_i32_102 c1_i32_103 k0_t1
  let c16_i32_246 : BitVec 32 := 16#32
  let v400 : BitVec 32 := Scalar.remsi arg12 c16_i32_246
  let c0_i32_253 : BitVec 32 := 0#32
  let c0_i32_254 : BitVec 32 := 0#32
  ![v400.toNat, 0, 0]
def k0_dev6 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_249 : BitVec 32 := 1#32
  let v403 : BitVec 32 := Scalar.muli v7 c1_i32_249
  let v404 : BitVec 32 := Scalar.addi c0_i32_250 v403
  v404.toNat
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8192x1024 : Shape := ⟨2, ![8192, 1024]⟩
abbrev S1024x16384 : Shape := ⟨2, ![1024, 16384]⟩
abbrev S16384x1024 : Shape := ⟨2, ![16384, 1024]⟩
abbrev S2048x16384 : Shape := ⟨2, ![2048, 16384]⟩
abbrev S8192x16384 : Shape := ⟨2, ![8192, 16384]⟩
abbrev S8192x128x128 : Shape := ⟨3, ![8192, 128, 128]⟩
abbrev S2048x128x128 : Shape := ⟨3, ![2048, 128, 128]⟩
abbrev S128x8192x2048 : Shape := ⟨3, ![128, 8192, 2048]⟩
abbrev S_ : Shape := ⟨0, ![]⟩
abbrev S128x8192 : Shape := ⟨2, ![128, 8192]⟩
abbrev S128x8192x1 : Shape := ⟨3, ![128, 8192, 1]⟩
abbrev S128x8192x128 : Shape := ⟨3, ![128, 8192, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x16384, .bf16⟩
  | .hbm, ⟨2, _⟩ => ⟨S16384x1024, .bf16⟩
  | .hbm, ⟨3, _⟩ => ⟨S2048x16384, .bf16⟩
  | .hbm, ⟨4, _⟩ => ⟨S2048x16384, .bf16⟩
  | .hbm, ⟨5, _⟩ => ⟨S8192x1024, .f32⟩
  | .hbm, ⟨6, _⟩ => ⟨S1024x16384, .f32⟩
  | .hbm, ⟨7, _⟩ => ⟨S16384x1024, .f32⟩
  | .hbm, ⟨8, _⟩ => ⟨S2048x16384, .f32⟩
  | .hbm, ⟨9, _⟩ => ⟨S2048x16384, .f32⟩
  | .hbm, ⟨10, _⟩ => ⟨S8192x16384, .f32⟩
  | .hbm, ⟨11, _⟩ => ⟨S8192x128x128, .f32⟩
  | .hbm, ⟨12, _⟩ => ⟨S2048x128x128, .f32⟩
  | .hbm, ⟨13, _⟩ => ⟨S2048x128x128, .f32⟩
  | .hbm, ⟨14, _⟩ => ⟨S128x8192x2048, .f32⟩
  | .hbm, ⟨15, _⟩ => ⟨S_, .f32⟩
  | .hbm, ⟨16, _⟩ => ⟨S128x8192x2048, .f32⟩
  | .hbm, ⟨17, _⟩ => ⟨S128x8192x2048, .f32⟩
  | .hbm, ⟨18, _⟩ => ⟨S_, .f32⟩
  | .hbm, ⟨19, _⟩ => ⟨S128x8192, .f32⟩
  | .hbm, ⟨20, _⟩ => ⟨S128x8192x1, .f32⟩
  | .hbm, ⟨21, _⟩ => ⟨S128x8192x2048, .f32⟩
  | .hbm, ⟨22, _⟩ => ⟨S128x8192x2048, .f32⟩
  | .hbm, ⟨23, _⟩ => ⟨S128x8192x2048, .f32⟩
  | .hbm, ⟨24, _⟩ => ⟨S_, .f32⟩
  | .hbm, ⟨25, _⟩ => ⟨S128x8192, .f32⟩
  | .hbm, ⟨26, _⟩ => ⟨S128x8192x1, .f32⟩
  | .hbm, ⟨27, _⟩ => ⟨S128x8192x128, .f32⟩
  | .hbm, ⟨28, _⟩ => ⟨S128x8192x128, .f32⟩
  | .hbm, ⟨29, _⟩ => ⟨S128x8192x128, .f32⟩
  | .hbm, ⟨30, _⟩ => ⟨S8192x128x128, .f32⟩
  | .hbm, ⟨31, _⟩ => ⟨S8192x16384, .f32⟩
  | .hbm, ⟨32, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Protocol.lean ====
/-
  The ring's protocol: who hands what to whom, on which semaphore.

  Sixteen devices stand in a ring. A chunk of activations travels to the right through the slots of one buffer, and the
  partial sums of that chunk travel behind it through the slots of another. Each hop lands in a slot of its own, so a
  slot is written by one transfer only; the barrier at the start hands every device the slots of its right neighbour.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Ring
public import Idealize.ShloMosaic.Lib.Tactic
public import Mathlib.Algebra.BigOperators.Intervals

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
/-- The device `n` places to the left of `c`. -/
def back (n : ℕ) (c : Dev nD) : Dev nD := ⟨(c.val + 15 * n) % 16, Nat.mod_lt _ (by decide)⟩
set_option backward.proofsInPublic true in
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩

theorem val_lt (c : Dev nD) : c.val < 16 := c.isLt

theorem back_val (n : ℕ) (c : Dev nD) : (back n c).val = (c.val + 15 * n) % 16 := rfl
theorem nxt_val (c : Dev nD) : (nxt c).val = (c.val + 1) % 16 := rfl
theorem prv_val (c : Dev nD) : (prv c).val = (c.val + 15) % 16 := rfl

theorem prv_nxt (c : Dev nD) : prv (nxt c) = c := Fin.ext (by have := val_lt c; rw [prv_val, nxt_val]; omega)
theorem nxt_prv (c : Dev nD) : nxt (prv c) = c := Fin.ext (by have := val_lt c; rw [nxt_val, prv_val]; omega)
theorem nxt_ne_prv (c : Dev nD) : nxt c ≠ prv c := fun h => by
  have h1 := congrArg Fin.val h; have := val_lt c; rw [prv_val, nxt_val] at h1; omega
theorem back_zero (c : Dev nD) : back 0 c = c := Fin.ext (by have := val_lt c; rw [back_val]; omega)
theorem back_succ (n : ℕ) (c : Dev nD) : back (n + 1) c = back n (prv c) := Fin.ext (by rw [back_val, back_val, prv_val]; omega)
theorem back_succ_nxt (n : ℕ) (c : Dev nD) : back (n + 1) (nxt c) = back n c := by rw [back_succ, prv_nxt]
theorem back_fifteen (c : Dev nD) : back 15 c = nxt c := Fin.ext (by rw [back_val, nxt_val]; omega)
theorem back_sixteen (c : Dev nD) : back 16 c = c := Fin.ext (by have := val_lt c; rw [back_val]; omega)

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev6_eq (c : Dev nD) : (⟨k0_dev6 c, k0_dev6_lt c⟩ : Dev nD) = nxt c := Fin.ext (k0_dev6_eq c)

def ring : Dev nD ≃ Dev nD := ⟨nxt, prv, prv_nxt, nxt_prv⟩

/-! ## The slots -/

/-- Where slot `n` of a sixteen-slot buffer starts. -/
def slo (n : ℕ) : Fin 3 → ℕ := ![n % 16, 0, 0]
theorem slo_inb (n : ℕ) : ∀ a, slo n a + S1x512x1024.size a ≤ S16x512x1024.size a := by
  intro a
  have := Nat.mod_lt n (show 0 < 16 by decide)
  fin_cases a
  · show n % 16 + 1 ≤ 16; omega
  · show 0 + 512 ≤ 512; omega
  · show 0 + 1024 ≤ 1024; omega

/-- The rectangle of slot `n`. -/
abbrev slr (n : ℕ) : Rect S16x512x1024 := Rect.unit (s := S16x512x1024) (slo n) S1x512x1024.size (slo_inb n)

/-- Slot `n` of the chunks' buffer, and of the sums' buffer. -/
abbrev xS (n : ℕ) : Memref sig .tc .vmem S1x512x1024 .bf16 := (Memref.whole cc0_scratch0).slice (slr n) (fun _ => rfl)
abbrev aS (n : ℕ) : Memref sig .tc .vmem S1x512x1024 .f32 := (Memref.whole cc0_scratch1).slice (slr n) (fun _ => rfl)
/-- The same slots, as a transfer names them. -/
abbrev xQ (n : ℕ) : Memref sig .tc .vmem S512x1024 .bf16 := (xS n).squeeze S512x1024 squeezes_S1x512x1024_S512x1024
abbrev aQ (n : ℕ) : Memref sig .tc .vmem S512x1024 .f32 := (aS n).squeeze S512x1024 squeezes_S1x512x1024_S512x1024

/-- The credits of a chunk's hop and of a sum's hop. -/
def NX : ℕ := (xQ 0).view.dmaCredit
def NA : ℕ := (aQ 0).view.dmaCredit
theorem NX_pos : 0 < NX := View.dmaCredit_pos _ (by decide)
theorem NA_pos : 0 < NA := View.dmaCredit_pos _ (by decide)
theorem NX_eq (n : ℕ) : (xQ n).view.dmaCredit = NX := rfl
theorem NA_eq (n : ℕ) : (aQ n).view.dmaCredit = NA := rfl

/-! ## The semaphores -/

abbrev barS : Sem sig := (SemArray.scalar (sig.barrier 0 rfl) : Sems sig S_).sem

set_option backward.proofsInPublic true in
/-- Semaphore `n` of array `a`: the chunks' send and receive semaphores, the sums' send and receive semaphores. -/
def dmaD (a : Fin 4) (n : ℕ) : DmaSem sig := ⟨6 + 16 * a.val + n % 16, by
  have := Nat.mod_lt n (show 0 < 16 by decide); have := a.isLt; show _ < 70; omega⟩

theorem dmaD_val (a : Fin 4) (n : ℕ) : (dmaD a n).val = 6 + 16 * a.val + n % 16 := rfl

abbrev barC (c : Dev nD) : GSem nD τ sig := ((c : Thread nD τ), .reg barS)
abbrev dmaC (a : Fin 4) (c : Dev nD) (n : ℕ) : GSem nD τ sig := ((c : Thread nD τ), .dma (dmaD a n))
abbrev xsC (c : Dev nD) (n : ℕ) : GSem nD τ sig := dmaC 0 c n
abbrev xrC (c : Dev nD) (n : ℕ) : GSem nD τ sig := dmaC 1 c n
abbrev asC (c : Dev nD) (n : ℕ) : GSem nD τ sig := dmaC 2 c n
abbrev arC (c : Dev nD) (n : ℕ) : GSem nD τ sig := dmaC 3 c n

theorem dmaD_mod {a : Fin 4} {n n' : ℕ} (h : n % 16 = n' % 16) : dmaD a n = dmaD a n' := by
  apply Fin.ext; rw [dmaD_val, dmaD_val, h]

theorem dmaD_inj {a a' : Fin 4} {n n' : ℕ} (h : dmaD a n = dmaD a' n') : a = a' ∧ n % 16 = n' % 16 := by
  have h' := congrArg Fin.val h
  rw [dmaD_val, dmaD_val] at h'
  have := Nat.mod_lt n (show 0 < 16 by decide); have := Nat.mod_lt n' (show 0 < 16 by decide)
  exact ⟨Fin.ext (by omega), by omega⟩

theorem dmaC_inj {a a' : Fin 4} {c c' : Dev nD} {n n' : ℕ} (h : dmaC a c n = dmaC a' c' n') : a = a' ∧ c = c' ∧ n % 16 = n' % 16 := by
  have h1 : c = c' := congrArg (fun g : GSem nD τ sig => g.1.1) h
  have h2 : (SemLoc.dma (dmaD a n) : SemLoc sig) = .dma (dmaD a' n') := congrArg Prod.snd h
  have h3 := dmaD_inj (SemLoc.dma.inj h2)
  exact ⟨h3.1, h1, h3.2⟩

theorem dmaC_mod {a : Fin 4} {c : Dev nD} {n n' : ℕ} (h : n % 16 = n' % 16) : dmaC a c n = dmaC a c n' := by
  unfold dmaC; rw [dmaD_mod h]

theorem dma_ne_bar (a : Fin 4) (n : ℕ) : (SemLoc.dma (dmaD a n) : SemLoc sig) ≠ .reg barS := fun h => by cases h

/-- A semaphore the program takes out of an array is the numbered one. -/
theorem sem_at {A : DmaSems sig S16} {a : Fin 4} (hA : ∀ i : S16.Idx, A.ix i = dmaD a (i 0).val) {o : Fin 1 → ℕ} {n : ℕ} (ho : o = ![n])
    (h : ∀ a, o a + S1.size a ≤ S16.size a) :
    ((A.slice (Rect.unit (s := S16) o S1.size h)).squeeze S_ squeezes_S1_S_).sem = dmaD a n := by
  subst ho
  show A.ix _ = _
  rw [hA]
  apply Fin.ext
  rw [dmaD_val, dmaD_val]
  congr 2
  show n + 1 * _ = n
  have h0 : ∀ x : Fin 1, (x : ℕ) = 0 := fun x => by omega
  exact (congrArg (fun y => n + 1 * y) (h0 _)).trans (by rw [Nat.mul_zero, Nat.add_zero])

theorem row_major_S16 (i : S16.Idx) : (S16.rowMajor i : ℕ) = (i 0).val := by revert i; decide +kernel

theorem ix_xs (i : S16.Idx) : (cc0_scratch2 : DmaSems sig S16).ix i = dmaD 0 (i 0).val := by
  apply Fin.ext; rw [dmaD_val]; show 6 + (S16.rowMajor i : ℕ) = _; rw [row_major_S16, Nat.mod_eq_of_lt (show (i 0).val < 16 from (i 0).isLt)]; rfl
theorem ix_xr (i : S16.Idx) : (cc0_scratch3 : DmaSems sig S16).ix i = dmaD 1 (i 0).val := by
  apply Fin.ext; rw [dmaD_val]; show 22 + (S16.rowMajor i : ℕ) = _; rw [row_major_S16, Nat.mod_eq_of_lt (show (i 0).val < 16 from (i 0).isLt)]; rfl
theorem ix_as (i : S16.Idx) : (cc0_scratch4 : DmaSems sig S16).ix i = dmaD 2 (i 0).val := by
  apply Fin.ext; rw [dmaD_val]; show 38 + (S16.rowMajor i : ℕ) = _; rw [row_major_S16, Nat.mod_eq_of_lt (show (i 0).val < 16 from (i 0).isLt)]; rfl
theorem ix_ar (i : S16.Idx) : (cc0_scratch5 : DmaSems sig S16).ix i = dmaD 3 (i 0).val := by
  apply Fin.ext; rw [dmaD_val]; show 54 + (S16.rowMajor i : ℕ) = _; rw [row_major_S16, Nat.mod_eq_of_lt (show (i 0).val < 16 from (i 0).isLt)]; rfl

/-! ## What travels -/

/-- The contents the protocol speaks of: a device's own chunk, and the sum device `c` has made of the chunk that reached
    it after `n` hops. -/
structure Vals (F : FTy → Type) where
  x : Dev nD → S1x512x1024.Idx → Elt F .bf16
  acc : ℕ → Dev nD → S1x512x1024.Idx → Elt F .f32

variable (P : Vals F)

/-- Slot `n` of device `c`, at any contents. -/
def xAny (c : Dev nD) (n : ℕ) : sProp 𝕄 := iprop(∃ X, ownsTc c (xS n) fullShare X)
def aAny (c : Dev nD) (n : ℕ) : sProp 𝕄 := iprop(∃ X, ownsTc c (aS n) fullShare X)

omit [FloatOps F] in
instance xAny_storable (c : Dev nD) (n : ℕ) : BI.Storable (upEmb : UEmb _ 𝕄) (xAny (F := F) c n) := by unfold xAny; infer_instance
omit [FloatOps F] in
instance aAny_storable (c : Dev nD) (n : ℕ) : BI.Storable (upEmb : UEmb _ 𝕄) (aAny (F := F) c n) := by unfold aAny; infer_instance

/-- The slots a device's barrier signal hands its left neighbour. -/
def barPay (c : Dev nD) : sProp 𝕄 :=
  iprop((bigSep (Finset.range 15) fun h => xAny (nxt c) (h + 1)) ∗ (bigSep (Finset.range 15) fun h => aAny (nxt c) (h + 1)))
/-- What a completed send of chunk hop `n` gives back. -/
def xsPay (c : Dev nD) (n : ℕ) : sProp 𝕄 := ownsTc c (xS n) fullShare.left (P.x (back n c))
/-- What the arrival in chunk slot `n` brings. -/
def xrPay (c : Dev nD) (n : ℕ) : sProp 𝕄 := ownsTc c (xS n) fullShare (P.x (back n c))
/-- What a completed send of sum hop `n` gives back. -/
def asPay (c : Dev nD) (n : ℕ) : sProp 𝕄 := if n = 0 then iprop(emp) else aAny c n
/-- What the arrival in sum slot `n` brings: the sum, and the first slot of the device the chunk belongs to. -/
def arPay (c : Dev nD) (n : ℕ) : sProp 𝕄 :=
  if n = 0 then ownsTc c (aS 0) fullShare (P.acc 15 (prv c))
  else iprop(ownsTc c (aS n) fullShare (P.acc (n - 1) (prv c)) ∗ aAny (back n c) 0)

/-! ## The schedule -/

/-- The payload of semaphore `i`'s duty on device `c`. -/
def dmaPay (c : Dev nD) (i : ℕ) : sProp 𝕄 :=
  if i < 22 then xsPay P c (i - 6) else if i < 38 then xrPay P c (i - 22) else if i < 54 then asPay c (i - 38) else arPay P c (i - 54)

omit [FloatOps F] in
instance dmaPay_storable (c : Dev nD) (i : ℕ) : BI.Storable (upEmb : UEmb _ 𝕄) (dmaPay (F := F) P c i) := by
  unfold dmaPay xsPay xrPay asPay arPay
  (repeat' split) <;> infer_instance

/-- One round, round 0: the barrier cell has a duty from each neighbour; a transfer's cell has one duty; the last send
    and the first receive semaphore of the chunks' hops are not used. -/
def rd : Rounds.Schedule (GSem nD τ sig) Bool 𝕄 where
  duties g r := if r = 0 ∧ g.1.2 = .tc then
      (match g.2 with
        | .reg s => if s = barS then Finset.univ else ∅
        | .dma i => if i.val < 6 ∨ i.val = 21 ∨ i.val = 22 then ∅ else {false})
    else ∅
  unitless _ := False
  amount g _ _ := match g.2 with
    | .reg _ => 1
    | .dma i => if i.val < 38 then NX else NA
  payload g _ d := match g.2 with
    | .reg _ => if d then barPay g.1.1 else iprop(emp)
    | .dma i => dmaPay P g.1.1 i.val
  amount_pos g _ _ _ := by
    rcases g with ⟨t, s | i⟩
    · exact Nat.one_pos
    · dsimp only; split
      · exact NX_pos
      · exact NA_pos

instance rd_payload_storable (g : GSem nD τ sig) (r : ℕ) (d : Bool) : BI.Storable (upEmb : UEmb _ 𝕄) ((rd (F := F) P).payload g r d) := by
  rcases g with ⟨t, s | i⟩
  · show BI.Storable upEmb (if d then barPay t.1 else iprop(emp))
    unfold barPay
    split <;> infer_instance
  · show BI.Storable upEmb (dmaPay P t.1 i.val)
    infer_instance

section Sched
variable (c : Dev nD)

omit [FloatOps F] in
theorem duties_bar : (rd (F := F) P).duties (barC c) 0 = Finset.univ := by
  dsimp only [rd]; rw [if_pos ⟨rfl, rfl⟩, if_pos rfl]

omit [FloatOps F] in
theorem duties_dma (a : Fin 4) (n : ℕ) : (rd (F := F) P).duties (dmaC a c n) 0
    = if a.val = 0 ∧ n % 16 = 15 ∨ a.val = 1 ∧ n % 16 = 0 then ∅ else {false} := by
  dsimp only [rd]
  rw [if_pos ⟨rfl, rfl⟩]
  have := Nat.mod_lt n (show 0 < 16 by decide)
  have := a.isLt
  refine if_congr ?_ rfl rfl
  rw [dmaD_val]
  omega

omit [FloatOps F] in
theorem duties_later (g : GSem nD τ sig) : ∀ r, 1 ≤ r → (rd (F := F) P).duties g r = ∅ :=
  fun r hr => by dsimp only [rd]; rw [if_neg fun h => by omega]

omit [FloatOps F] in
theorem duties_xs {n : ℕ} (h : n < 15) : (rd (F := F) P).duties (xsC c n) 0 = {false} := by
  rw [duties_dma, if_neg (by have : ((0 : Fin 4) : ℕ) = 0 := rfl; omega)]
omit [FloatOps F] in
theorem duties_xr {n : ℕ} (h : n < 15) : (rd (F := F) P).duties (xrC c (n + 1)) 0 = {false} := by
  rw [duties_dma, if_neg (by have : ((1 : Fin 4) : ℕ) = 1 := rfl; omega)]
omit [FloatOps F] in
theorem duties_as (n : ℕ) : (rd (F := F) P).duties (asC c n) 0 = {false} := by
  rw [duties_dma, if_neg (by have : ((2 : Fin 4) : ℕ) = 2 := rfl; omega)]
omit [FloatOps F] in
theorem duties_ar (n : ℕ) : (rd (F := F) P).duties (arC c n) 0 = {false} := by
  rw [duties_dma, if_neg (by have : ((3 : Fin 4) : ℕ) = 3 := rfl; omega)]
omit [FloatOps F] in
theorem duties_unused (a : Fin 4) (n : ℕ) (h : a.val = 0 ∧ n % 16 = 15 ∨ a.val = 1 ∧ n % 16 = 0) :
    ∀ r, 0 ≤ r → (rd (F := F) P).duties (dmaC a c n) r = ∅ := fun r _ => by
  rcases Nat.eq_zero_or_pos r with rfl | hr
  · rw [duties_dma, if_pos h]
  · exact duties_later P _ r hr

omit [FloatOps F] in
theorem amount_bar (d : Bool) : (rd (F := F) P).amount (barC c) 0 d = 1 := rfl
omit [FloatOps F] in
theorem amount_dma (a : Fin 4) (n : ℕ) (d : Bool) : (rd (F := F) P).amount (dmaC a c n) 0 d = if a.val < 2 then NX else NA := by
  dsimp only [rd]
  have := Nat.mod_lt n (show 0 < 16 by decide)
  refine if_congr ?_ rfl rfl
  rw [dmaD_val]
  omega

omit [FloatOps F] in
theorem amount_xs (n : ℕ) (d : Bool) : (rd (F := F) P).amount (xsC c n) 0 d = NX := (amount_dma P c 0 n d).trans (if_pos (by decide))
omit [FloatOps F] in
theorem amount_xr (n : ℕ) (d : Bool) : (rd (F := F) P).amount (xrC c n) 0 d = NX := (amount_dma P c 1 n d).trans (if_pos (by decide))
omit [FloatOps F] in
theorem amount_as (n : ℕ) (d : Bool) : (rd (F := F) P).amount (asC c n) 0 d = NA := (amount_dma P c 2 n d).trans (if_neg (by decide))
omit [FloatOps F] in
theorem amount_ar (n : ℕ) (d : Bool) : (rd (F := F) P).amount (arC c n) 0 d = NA := (amount_dma P c 3 n d).trans (if_neg (by decide))

omit [FloatOps F] in
theorem expect_bar : (rd (F := F) P).expect (barC c) 0 = 2 := by
  unfold Schedule.expect Schedule.amountOf
  rw [duties_bar, Finset.sum_congr rfl fun d _ => amount_bar P c d, Finset.sum_const, Finset.card_univ, Fintype.card_bool, smul_eq_mul]

omit [FloatOps F] in
theorem expect_of {g : GSem nD τ sig} {N : ℕ} (hd : (rd (F := F) P).duties g 0 = {false}) (ha : (rd (F := F) P).amount g 0 false = N) :
    (rd (F := F) P).expect g 0 = N := by
  unfold Schedule.expect Schedule.amountOf; rw [hd, Finset.sum_singleton, ha]

omit [FloatOps F] in
theorem payload_bar_true : (rd (F := F) P).payload (barC c) 0 true = barPay c := by dsimp only [rd]; rw [if_pos rfl]
omit [FloatOps F] in
theorem payload_bar_false : (rd (F := F) P).payload (barC c) 0 false = iprop(emp) := by
  dsimp only [rd]; exact if_neg Bool.false_ne_true

omit [FloatOps F] in
theorem payload_xs {n : ℕ} (h : n < 16) (d : Bool) : (rd (F := F) P).payload (xsC c n) 0 d = xsPay P c n := by
  show dmaPay P c (6 + 16 * 0 + n % 16) = _
  rw [Nat.mod_eq_of_lt h]; unfold dmaPay; rw [if_pos (by omega)]; congr 1; omega
omit [FloatOps F] in
theorem payload_xr {n : ℕ} (h : n < 16) (d : Bool) : (rd (F := F) P).payload (xrC c n) 0 d = xrPay P c n := by
  show dmaPay P c (6 + 16 * 1 + n % 16) = _
  rw [Nat.mod_eq_of_lt h]; unfold dmaPay; rw [if_neg (by omega), if_pos (by omega)]; congr 1; omega
omit [FloatOps F] in
theorem payload_as {n : ℕ} (h : n < 16) (d : Bool) : (rd (F := F) P).payload (asC c n) 0 d = asPay c n := by
  show dmaPay P c (6 + 16 * 2 + n % 16) = _
  rw [Nat.mod_eq_of_lt h]; unfold dmaPay; rw [if_neg (by omega), if_neg (by omega), if_pos (by omega)]; congr 1; omega
omit [FloatOps F] in
theorem payload_ar {n : ℕ} (h : n < 16) (d : Bool) : (rd (F := F) P).payload (arC c n) 0 d = arPay P c n := by
  show dmaPay P c (6 + 16 * 3 + n % 16) = _
  rw [Nat.mod_eq_of_lt h]; unfold dmaPay; rw [if_neg (by omega), if_neg (by omega), if_neg (by omega)]; congr 1; omega

omit [FloatOps F] in
theorem rest_bar : bigSep ((rd (F := F) P).duties (barC c) 0 \ ∅) (fun d => (rd (F := F) P).payload (barC c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
omit [FloatOps F] in
theorem rest_of {g : GSem nD τ sig} (hd : (rd (F := F) P).duties g 0 = {false}) :
    bigSep ((rd (F := F) P).duties g 0 \ ∅) (fun d => (rd (F := F) P).payload g 0 d) = (rd (F := F) P).payload g 0 false := by
  rw [Finset.sdiff_empty, hd, bigSep_singleton]

end Sched

/-! ## What a device owes, and the levels -/

def oweX (c : Dev nD) (h : ℕ) : CellTallies nD τ sig Unit := tallyAt (xrC (nxt c) (h + 1)) () NX
def oweA (c : Dev nD) (h : ℕ) : CellTallies nD τ sig Unit := tallyAt (arC (nxt c) (h + 1)) () NA

/-- The arrivals device `c` still owes its right neighbour: the chunks' hops from `n` on, the sums' hops from `k` on. -/
def owed (c : Dev nD) (n k : ℕ) : CellTallies nD τ sig Unit := (∑ h ∈ Finset.Ico n 15, oweX c h) + ∑ h ∈ Finset.Ico k 16, oweA c h

theorem owed_x (c : Dev nD) {n : ℕ} (k : ℕ) (h : n < 15) : owed c n k = owed c (n + 1) k + oweX c n := by
  unfold owed; rw [Finset.sum_eq_sum_Ico_succ_bot h]; rw [add_comm (oweX c n), add_right_comm]
theorem owed_a (c : Dev nD) (n : ℕ) {k : ℕ} (h : k < 16) : owed c n k = owed c n (k + 1) + oweA c k := by
  unfold owed; rw [Finset.sum_eq_sum_Ico_succ_bot h]; rw [add_comm (oweA c k), add_assoc]
theorem owed_done (c : Dev nD) {n k : ℕ} (h : 15 ≤ n) (h' : 16 ≤ k) : owed c n k = 0 := by
  unfold owed; rw [Finset.Ico_eq_empty (by omega), Finset.Ico_eq_empty (by omega), Finset.sum_empty, Finset.sum_empty, add_zero]
theorem owed_x_done (c : Dev nD) {n n' k : ℕ} (h : 15 ≤ n) (h' : 15 ≤ n') : owed c n k = owed c n' k := by
  unfold owed; rw [Finset.Ico_eq_empty (a := n) (b := 15) (by omega), Finset.Ico_eq_empty (a := n') (b := 15) (by omega)]

theorem sum_tally_pos {I : Type} [DecidableEq I] (s : Finset I) (f : I → CellTallies nD τ sig Unit) {g : GSem nD τ sig} {u : Unit}
    (h : 0 < (∑ i ∈ s, f i) g u) : ∃ i ∈ s, 0 < f i g u := by
  by_contra hn
  have : ∀ i ∈ s, f i g u = 0 := fun i hi => by
    by_contra h0; exact hn ⟨i, hi, Nat.pos_of_ne_zero h0⟩
  rw [Finset.sum_apply, Finsupp.finset_sum_apply, Finset.sum_eq_zero this] at h
  exact Nat.lt_irrefl 0 h

theorem tally_pos {g₀ g : GSem nD τ sig} {N : ℕ} {u : Unit} (h : 0 < (tallyAt g₀ () N : CellTallies nD τ sig Unit) g u) : g = g₀ := by
  rw [tallyAt_apply] at h
  by_contra hn
  rw [if_neg (fun h' => hn h'.1)] at h
  exact Nat.lt_irrefl 0 h

theorem owed_pos {c : Dev nD} {n k : ℕ} {g : GSem nD τ sig} {u : Unit} (h : 0 < owed c n k g u) :
    (∃ j, n ≤ j ∧ j < 15 ∧ g = xrC (nxt c) (j + 1)) ∨ (∃ j, k ≤ j ∧ j < 16 ∧ g = arC (nxt c) (j + 1)) := by
  unfold owed at h
  rw [Pi.add_apply, Finsupp.add_apply] at h
  rcases Nat.eq_zero_or_pos ((∑ h ∈ Finset.Ico n 15, oweX c h) g u) with h0 | h0
  · rw [h0, Nat.zero_add] at h
    obtain ⟨j, hj, hp⟩ := sum_tally_pos _ _ h
    rw [Finset.mem_Ico] at hj
    exact Or.inr ⟨j, hj.1, hj.2, tally_pos hp⟩
  · obtain ⟨j, hj, hp⟩ := sum_tally_pos _ _ h0
    rw [Finset.mem_Ico] at hj
    exact Or.inl ⟨j, hj.1, hj.2, tally_pos hp⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier at 1, the arrival of hop `h` at `h + 2`, everything else at 0. -/
def lv (g : GSem nD τ sig) (_ : Unit) : ℕ := match g.2 with
  | .reg _ => 1
  | .dma i => if i.val < 22 then 0 else if i.val < 38 then i.val - 22 + 1 else if i.val < 54 then 0 else if i.val = 54 then 17 else i.val - 54 + 1

theorem lv_xs (c : Dev nD) (n : ℕ) (u : Unit) : lv (xsC c n) u = 0 := by
  have := Nat.mod_lt n (show 0 < 16 by decide)
  have : (dmaD 0 n).val = 6 + 16 * 0 + n % 16 := rfl
  dsimp only [lv]; rw [if_pos (by omega)]
theorem lv_as (c : Dev nD) (n : ℕ) (u : Unit) : lv (asC c n) u = 0 := by
  have := Nat.mod_lt n (show 0 < 16 by decide)
  have : (dmaD 2 n).val = 6 + 16 * 2 + n % 16 := rfl
  dsimp only [lv]; rw [if_neg (by omega), if_neg (by omega), if_pos (by omega)]
theorem lv_xr (c : Dev nD) {n : ℕ} (h : n < 15) (u : Unit) : lv (xrC c (n + 1)) u = n + 2 := by
  have : (dmaD 1 (n + 1)).val = 6 + 16 * 1 + (n + 1) % 16 := rfl
  dsimp only [lv]; rw [if_neg (by omega), if_pos (by omega)]; omega
theorem lv_ar (c : Dev nD) {n : ℕ} (h : n < 16) (u : Unit) : lv (arC c (n + 1)) u = n + 2 := by
  have : (dmaD 3 (n + 1)).val = 6 + 16 * 3 + (n + 1) % 16 := rfl
  dsimp only [lv]; rw [if_neg (by omega), if_neg (by omega), if_neg (by omega)]
  by_cases h' : n = 15
  · subst h'; rw [if_pos (by omega)]
  · rw [if_neg (by omega)]; omega

omit [FloatOps F] in
/-- A wait below every arrival still owed is allowed. -/
theorem mayWait (c : Dev nD) (sm : SemLoc sig) (b n k : ℕ) (hb : lv ((c : Thread nD τ), sm) () ≤ b) (hn : b < n + 2) (hk : b < k + 2) :
    (levAts L lv : sProp 𝕄) ⊢ MayWait (c : Thread nD τ) sm () (owed c n k) :=
  MayOwe.of_cut (L := L) (lev := lv) b (fun p hp => by rw [Finset.mem_singleton.mp hp, L_tc]; exact Finset.mem_singleton_self _)
    (fun g u hg => by rcases owed_pos hg with ⟨j, -, -, rfl⟩ | ⟨j, -, -, rfl⟩ <;> exact Finset.mem_singleton_self _)
    (fun p hp => by rw [Finset.mem_singleton.mp hp]; exact hb)
    (fun g u hg => by
      rcases owed_pos hg with ⟨j, hj, hj', rfl⟩ | ⟨j, hj, hj', rfl⟩
      · rw [lv_xr _ hj']; omega
      · rw [lv_ar _ hj']; omega)

/-- What a device owes at launch. -/
def O₁ (c : Dev nD) : CellTallies nD τ sig Unit := owed c 0 0 + tallyAt (barC (nxt c)) () 1
def O₀ (c : Dev nD) : CellTallies nD τ sig Unit := O₁ c + tallyAt (barC (prv c)) () 1

theorem O₀_pos {c : Dev nD} {g : GSem nD τ sig} {u : Unit} (h : 0 < O₀ c g u) :
    0 < owed c 0 0 g u ∨ g = barC (nxt c) ∨ g = barC (prv c) := by
  unfold O₀ O₁ at h
  rw [Pi.add_apply, Finsupp.add_apply, Pi.add_apply, Finsupp.add_apply] at h
  by_contra hn
  rw [not_or, not_or] at hn
  rw [Nat.eq_zero_of_not_pos hn.1, Nat.eq_zero_of_not_pos (fun h' => hn.2.1 (tally_pos h')), Nat.eq_zero_of_not_pos (fun h' => hn.2.2 (tally_pos h'))] at h
  exact Nat.lt_irrefl 0 h

omit [FloatOps F] in
theorem mayWait_stage (c : Dev nD) (q : DmaSem sig) (hq : q.val < 22) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_)
      (fun p hp => by rw [Finset.mem_singleton.mp hp]; dsimp only [lv]; rw [if_pos hq])
      (fun g u hg => ?_)
    · rcases O₀_pos hg with h | rfl | rfl
      · rcases owed_pos h with ⟨j, -, -, rfl⟩ | ⟨j, -, -, rfl⟩ <;> exact Finset.mem_singleton_self _
      · exact Finset.mem_singleton_self _
      · exact Finset.mem_singleton_self _
    · rcases O₀_pos hg with h | rfl | rfl
      · rcases owed_pos h with ⟨j, -, hj', rfl⟩ | ⟨j, -, hj', rfl⟩
        · rw [lv_xr _ hj']; omega
        · rw [lv_ar _ hj']; omega
      · exact Nat.one_pos
      · exact Nat.one_pos
  · rw [MayWait_zero]; iintro -; iempintro

end Cert.RingProof

end
-- ==== Proof.Rules.lean ====
/-
  The rules of the ring's operations, each stated once for a symbolic device and a symbolic hop: a load and a store of a
  slot, the waits on the numbered semaphores, the three kinds of remote copy.
-/
module

public import proofs.«01_k».proof.Proof.Protocol

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Slots of a sixteen-slot buffer -/

section Slot
variable {e : EltTy}

/-- Slot `n` of the buffer `b`, starting at `o`. -/
abbrev slotAt (b : Memref sig .tc .vmem S16x512x1024 e) (o : Fin 3 → ℕ) (h : ∀ a, o a + S1x512x1024.size a ≤ S16x512x1024.size a) :
    Memref sig .tc .vmem S1x512x1024 e := b.slice (Rect.unit (s := S16x512x1024) o S1x512x1024.size h) (fun _ => rfl)
/-- The same as a transfer names it. -/
abbrev slotQ (b : Memref sig .tc .vmem S16x512x1024 e) (o : Fin 3 → ℕ) (h : ∀ a, o a + S1x512x1024.size a ≤ S16x512x1024.size a) :
    Memref sig .tc .vmem S512x1024 e := (slotAt b o h).squeeze S512x1024 squeezes_S1x512x1024_S512x1024

theorem load_slot (b : Memref sig .tc .vmem S16x512x1024 e) (c : Dev nD) {α : Type} {Q : α → sProp 𝕄} {o : Fin 3 → ℕ} {n : ℕ} (ho : o = slo n)
    {h : ∀ a, o a + S1x512x1024.size a ≤ S16x512x1024.size a} {q : PosShare TreeShare} {X : S1x512x1024.Idx → Elt F e}
    {hl : b.view.LoadsAt (Rect.unit (s := S16x512x1024) o S1x512x1024.size h).toLoadRect}
    {k : (S1x512x1024.Idx → Elt F e) → Prog (TpuEff nD τ sig (Elt F) Λ₀ .tc) α} :
    (ownsTc c (slotAt b (slo n) (slo_inb n)) q X : sProp 𝕄)
      ⊢ iprop((ownsTc c (slotAt b (slo n) (slo_inb n)) q X -∗ wpc c (k X) Q)
        -∗ wpc c (.op (.load b (Rect.unit (s := S16x512x1024) o S1x512x1024.size h).toLoadRect hl) k) Q) := by
  subst ho
  unfold ownsTc owns
  iintro ⟨%f, %hf, H⟩ Hk
  iapply (wp_load_rect 𝒱₀ (c : Thread nD τ) none Set.univ (m := b) (r := Rect.unit (s := S16x512x1024) (slo n) S1x512x1024.size h)
    (S := (slotAt b (slo n) (slo_inb n)).view.set) (f := f) (Finset.Subset.refl _)) $$ H
  iintro H
  rw [show ((b.access (Rect.unit (s := S16x512x1024) (slo n) S1x512x1024.size h)).read (Elt F) f) = X from hf]
  iapply Hk
  iexists f
  isplitr
  · ipureintro; exact hf
  · iexact H

theorem store_slot (b : Memref sig .tc .vmem S16x512x1024 e) (c : Dev nD) {α : Type} {Q : α → sProp 𝕄} {o : Fin 3 → ℕ} {n : ℕ} (ho : o = slo n)
    {h : ∀ a, o a + S1x512x1024.size a ≤ S16x512x1024.size a} {X w : S1x512x1024.Idx → Elt F e}
    {hx : (b.access (Rect.unit (s := S16x512x1024) o S1x512x1024.size h)).Stores Finset.univ} {hm}
    {k : PUnit → Prog (TpuEff nD τ sig (Elt F) Λ₀ .tc) α} :
    (ownsTc c (slotAt b (slo n) (slo_inb n)) fullShare X : sProp 𝕄)
      ⊢ iprop((ownsTc c (slotAt b (slo n) (slo_inb n)) fullShare w -∗ wpc c (k ⟨⟩) Q)
        -∗ wpc c (.op (.store b (Rect.unit (s := S16x512x1024) o S1x512x1024.size h) w Finset.univ hx hm) k) Q) := by
  subst ho
  unfold ownsTc owns
  iintro ⟨%f, %hf, H⟩ Hk
  iapply (wp_store 𝒱₀ (c : Thread nD τ) none Set.univ (m := b) (r := Rect.unit (s := S16x512x1024) (slo n) S1x512x1024.size h) (w := w)
    (S := (slotAt b (slo n) (slo_inb n)).view.set) (f := f) (Finset.Subset.refl _)) $$ H
  iintro H
  iapply Hk
  iexists _
  isplitr
  rotate_left
  · iexact H
  · ipureintro; exact View.read_write_univ _ _

/-- The elements of a slot at raw contents, as a transfer names them. -/
abbrev slotPts (b : Memref sig .tc .vmem S16x512x1024 e) (c : Dev nD) (n : ℕ) (q : PosShare TreeShare)
    (f : Buf (Elt F) ((slotQ b (slo n) (slo_inb n)).view.loc (c : Thread nD τ))) : sProp 𝕄 :=
  (slotQ b (slo n) (slo_inb n)).view.loc (c : Thread nD τ) ↦[(slotQ b (slo n) (slo_inb n)).view.set]{q} f

omit [FloatOps F] in
theorem slot_set (b : Memref sig .tc .vmem S16x512x1024 e) (n : ℕ) :
    (slotQ b (slo n) (slo_inb n)).view.set = (slotAt b (slo n) (slo_inb n)).view.set := View.set_reshape _ _

omit [FloatOps F] in
theorem slot_out (b : Memref sig .tc .vmem S16x512x1024 e) (c : Dev nD) (n : ℕ) (q : PosShare TreeShare) (X : S1x512x1024.Idx → Elt F e) :
    (ownsTc c (slotAt b (slo n) (slo_inb n)) q X : sProp 𝕄)
      ⊢ iprop(∃ f : Buf (Elt F) ((slotQ b (slo n) (slo_inb n)).view.loc (c : Thread nD τ)),
        ⌜(slotAt b (slo n) (slo_inb n)).view.read (Elt F) f = X⌝ ∗ slotPts b c n q f) := by
  unfold ownsTc owns slotPts
  rw [slot_set]

omit [FloatOps F] in
theorem slot_in (b : Memref sig .tc .vmem S16x512x1024 e) (c : Dev nD) (n : ℕ) (q : PosShare TreeShare) {X : S1x512x1024.Idx → Elt F e}
    {f : Buf (Elt F) ((slotQ b (slo n) (slo_inb n)).view.loc (c : Thread nD τ))}
    (hf : (slotAt b (slo n) (slo_inb n)).view.read (Elt F) f = X) :
    slotPts b c n q f ⊢ (ownsTc c (slotAt b (slo n) (slo_inb n)) q X : sProp 𝕄) := by
  unfold ownsTc owns slotPts
  rw [slot_set]
  iintro H
  iexists f
  isplitr
  · ipureintro; exact hf
  · iexact H

/-- What a slot holds after a copy from another. -/
theorem read_copied (b : Memref sig .tc .vmem S16x512x1024 e) (n n' : ℕ) (fd fs) :
    (slotAt b (slo n') (slo_inb n')).view.read (Elt F) ((slotQ b (slo n') (slo_inb n')).view.write (Elt F) fd
      ((slotQ b (slo n) (slo_inb n)).view.read (Elt F) fs) Finset.univ) = (slotAt b (slo n) (slo_inb n)).view.read (Elt F) fs := by
  show (slotAt b (slo n') (slo_inb n')).view.read (Elt F) (((slotAt b (slo n') (slo_inb n')).view.reshape S512x1024 _).write (Elt F) fd _ Finset.univ) = _
  rw [View.write_reshape_univ, View.read_write_univ]
  funext x
  show (slotAt b (slo n) (slo_inb n)).view.read (Elt F) fs (Shape.reshapeEquiv _ ((Shape.reshapeEquiv _).symm x)) = _
  rw [Equiv.apply_symm_apply]

end Slot

/-! ## The cells' invariants -/

/-- The semaphores of one device the protocol is about: the barrier, and the numbered ones. -/
abbrev J : Type := Unit ⊕ (Fin 4 × Fin 16)
def csem : J → SemLoc sig
  | .inl _ => .reg barS
  | .inr p => .dma (dmaD p.1 p.2.val)
def kcell (i : Dev nD × J) : GSem nD τ sig := ((i.1 : Thread nD τ), csem i.2)

variable (P : Vals F) (K : Dev nD × J → ℕ)

/-- Every cell's invariant, and that every cell is at its first round. -/
def records : sProp 𝕄 :=
  iprop((bigSep Finset.univ fun i : Dev nD × J => cellInv ER (rd P) (K i) (kcell i)) ∗ bigSep Finset.univ fun i : Dev nD × J => reached ER (kcell i) 0)

instance records_persistent : BI.Persistent (records P K) := by unfold records; infer_instance

/-- The name of a numbered semaphore's invariant. -/
def kn (a : Fin 4) (c : Dev nD) (n : ℕ) : ℕ := K (c, .inr (a, ⟨n % 16, Nat.mod_lt _ (by decide)⟩))
def kb (c : Dev nD) : ℕ := K (c, .inl ())

theorem kcell_dma (a : Fin 4) (c : Dev nD) (n : ℕ) : kcell (c, .inr (a, ⟨n % 16, Nat.mod_lt _ (by decide)⟩)) = dmaC a c n :=
  dmaC_mod (Nat.mod_mod _ _)

theorem kcell_bar (c : Dev nD) : kcell (c, .inl ()) = barC c := rfl

theorem rec_dma (a : Fin 4) (c : Dev nD) (n : ℕ) :
    records P K ⊢ iprop(cellInv ER (rd P) (kn K a c n) (dmaC a c n) ∗ reached ER (dmaC a c n) 0) := by
  have h := sep_mono (bigSep_elim (Φ := fun i : Dev nD × J => (cellInv ER (rd P) (K i) (kcell i) : sProp 𝕄)) (Finset.mem_univ (c, .inr (a, ⟨n % 16, Nat.mod_lt _ (by decide)⟩))))
    (bigSep_elim (Φ := fun i : Dev nD × J => (reached ER (kcell i) 0 : sProp 𝕄)) (Finset.mem_univ (c, .inr (a, ⟨n % 16, Nat.mod_lt _ (by decide)⟩))))
  rw [kcell_dma] at h
  exact h

theorem rec_bar (c : Dev nD) :
    records P K ⊢ iprop(cellInv ER (rd P) (kb K c) (barC c) ∗ reached ER (barC c) 0) := by
  have h := sep_mono (bigSep_elim (Φ := fun i : Dev nD × J => (cellInv ER (rd P) (K i) (kcell i) : sProp 𝕄)) (Finset.mem_univ (c, .inl ())))
    (bigSep_elim (Φ := fun i : Dev nD × J => (reached ER (kcell i) 0 : sProp 𝕄)) (Finset.mem_univ (c, .inl ())))
  rw [kcell_bar] at h
  exact h

/-- What device `c` owes, whatever it has waited for. -/
def owesE (c : Dev nD) (O : CellTallies nD τ sig Unit) : sProp 𝕄 := iprop(∃ W, owes (c : Thread nD τ) O W)

/-! ## Waits -/

/-- A wait for the one duty of a numbered semaphore: the payload comes back. -/
theorem wait_dma (a : Fin 4) (c : Dev nD) (n N i k' : ℕ) {s : DmaSem sig} {α : Type} {Q : α → sProp 𝕄}
    {k : PUnit → Prog (TpuEff nD τ sig (Elt F) Λ₀ .tc) α} {sp sp' : Space} {sh sh' : Shape} {e e' : EltTy}
    {src : Memref sig .tc sp sh e} {dst : Memref sig .tc sp' sh' e'}
    (hs : s = dmaD a n) (hN : dst.view.dmaCredit = N)
    (hd : (rd P).duties (dmaC a c n) 0 = {false}) (ha : (rd P).amount (dmaC a c n) 0 false = N)
    (b : ℕ) (hb : lv (dmaC a c n) () ≤ b) (hi : b < i + 2) (hk : b < k' + 2)
    {h1 h2} :
    iprop(records P K ∗ levAts L lv ∗ cred (tallyAt (dmaC a c n) () N) ∗ owesE c (owed c i k') ∗ atPos ER (dmaC a c n) 0 ∅ 0)
      ⊢ iprop(((owesE c (owed c i k') ∗ atPos ER (dmaC a c n) 1 ∅ 0 ∗ (rd P).payload (dmaC a c n) 0 false) -∗ wpc c (k ⟨⟩) Q)
        -∗ wpc c (.op (.waitDma2 s src dst h1 h2) k) Q) := by
  subst hs
  unfold owesE
  iintro ⟨#HR, #Hlev, Hc, ⟨%W, HO⟩, Hat⟩ Hk
  ihave HR' := (rec_dma P K a c n) $$ HR
  icases HR' with ⟨#HI, -⟩
  iapply (Rounds.wp_wait_rest_token 𝒱₀ ER (rd P) (c : Thread nD τ) none (κ := kn K a c n)
      (wpE_waitDma2_eq 𝒱₀ (c : Thread nD τ) none Set.univ) (Set.mem_univ _) () (O := owed c i k') (W := W) (R := 0) (m := 0) (T := ∅)
      (by rw [Nat.zero_add, expect_of P hd ha]; exact hN)) $$ [Hc HO Hat]
  · isplitr; · iexact HI
    isplitl [Hc]; · rw [hN]; iexact Hc
    isplitl [HO]; · iexact HO
    isplitr; · iapply (mayWait c _ b i k' hb hi hk); iexact Hlev
    iexact Hat
  iintro ⟨HO, Hat, -, Hpay⟩
  ihave Hp := (Entails.of_eq (rest_of P hd)) $$ Hpay
  iapply Hk
  isplitl [HO]; · iexists _; iexact HO
  isplitl [Hat]; · iexact Hat
  iexact Hp

/-! ## Remote copies -/

theorem amt_x (o : Fin 3 → ℕ) (h) (s : DmaSem sig) :
    (slotQ (Memref.whole cc0_scratch0) o h : Memref sig .tc .vmem S512x1024 .bf16).view.amount (.dma s) = NX := rfl
theorem amt_a (o : Fin 3 → ℕ) (h) (s : DmaSem sig) :
    (slotQ (Memref.whole cc0_scratch1) o h : Memref sig .tc .vmem S512x1024 .f32).view.amount (.dma s) = NA := rfl

section Send
variable {e : EltTy} (b : Memref sig .tc .vmem S16x512x1024 e)

/-- A copy of slot `n` into the neighbour's slot `n'`, the source coming back with the send semaphore. -/
theorem send_slot (c m : Dev nD) (hm : m = nxt c) (n n' : ℕ) (a a' : Fin 4) (j j' N : ℕ) (q : PosShare TreeShare) (X : S1x512x1024.Idx → Elt F e) (G : sProp 𝕄)
    {α : Type} {Q : α → sProp 𝕄} {k : PUnit → Prog (TpuEff nD τ sig (Elt F) Λ₀ .tc) α} {o o' : Fin 3 → ℕ} {ih ih'}
    (ho : o = slo n) (ho' : o' = slo n') {sS sR : DmaSem sig} (hS : sS = dmaD a j) (hR : sR = dmaD a' j')
    {hsc : (slotQ b o' ih' : Memref sig (Dev.tc m : Thread nD τ).2.kind .vmem S512x1024 e).view.ref.isScScratch = false}
    {hsrc : (slotQ b o ih).view.WordExact} {hdst : (slotQ b o' ih').view.WordExact}
    {hsem : DmaTarget.Typed .vmem (.dma sR) (.remote (Dev.tc m : Thread nD τ) (slotQ b o' ih') (.dma sS) hsc)}
    (hN : (slotQ b o' ih').view.amount (.dma sR) = N)
    (hd₁ : (rd P).duties (dmaC a c j) 0 = {false}) (hd₂ : (rd P).duties (dmaC a' (nxt c) j') 0 = {false})
    (ha₁ : (rd P).amount (dmaC a c j) 0 false = N) (ha₂ : (rd P).amount (dmaC a' (nxt c) j') 0 false = N)
    (O₀ O : CellTallies nD τ sig Unit) (hO : O₀ = O + tallyAt (dmaC a' (nxt c) j') () N)
    (hpay₁ : (ownsTc c (slotAt b (slo n) (slo_inb n)) q X : sProp 𝕄) ⊢ (rd P).payload (dmaC a c j) 0 false)
    (hpay₂ : iprop(ownsTc (nxt c) (slotAt b (slo n') (slo_inb n')) fullShare X ∗ G) ⊢ (rd P).payload (dmaC a' (nxt c) j') 0 false) :
    iprop(records P K ∗ ownsTc c (slotAt b (slo n) (slo_inb n)) q X ∗ (∃ Y, ownsTc (nxt c) (slotAt b (slo n') (slo_inb n')) fullShare Y) ∗ G ∗ owesE c O₀
        ∗ dutyTok ER (dmaC a c j) 0 false ∗ dutyTok ER (dmaC a' (nxt c) j') 0 false)
      ⊢ iprop(((cred (tallyAt (dmaC a c j) () N) ∗ owesE c O) -∗ wpc c (k ⟨⟩) Q)
        -∗ wpc c (.op (.enqueueDma (slotQ b o ih) (.remote (Dev.tc m : Thread nD τ) (slotQ b o' ih') (.dma sS) hsc) (.dma sR) hsrc hdst hsem) k) Q) := by
  subst hm ho ho' hS hR
  unfold owesE
  iintro ⟨#HR, Hs, ⟨%Y, Hd⟩, HG, ⟨%W, HO⟩, Ht1, Ht2⟩ Hk
  ihave HR1 := (rec_dma P K a c j) $$ HR
  icases HR1 with ⟨#HI1, #Hr1⟩
  ihave HR2 := (rec_dma P K a' (nxt c) j') $$ HR
  icases HR2 with ⟨#HI2, #Hr2⟩
  ihave Hs' := (slot_out b c n q X) $$ Hs
  icases Hs' with ⟨%fs, %hfs, Hs⟩
  ihave Hd' := (slot_out b (nxt c) n' fullShare Y) $$ Hd
  icases Hd' with ⟨%fd, %hfd, Hd⟩
  iapply (Rounds.wp_send_pointsTo_with 𝒱₀ ER (rd P) (c : Thread nD τ) none (c' := (nxt c : Thread nD τ)) (src := slotQ b (slo n) ih) (dst := slotQ b (slo n') ih')
    (κ₁ := kn K a c j) (κ₂ := kn K a' (nxt c) j')
    (r₁ := 0) (r₂ := 0) (d₁ := false) (d₂ := false) (fs := fs) (fd := fd) (q := q) (F := G)
    (by rw [hd₁]; exact Finset.mem_singleton_self _) (by rw [hd₂]; exact Finset.mem_singleton_self _)
    () () N hN ha₁ ha₂ O hO (W := W)
    ((slot_in b c n q hfs).trans hpay₁)
    ((sep_mono_left (slot_in b (nxt c) n' fullShare ((read_copied b n n' fd fs).trans hfs))).trans hpay₂)) $$ [Hs Hd HG HO Ht1 Ht2]
  · isplitr; · iexact HI1
    isplitr; · iexact HI2
    isplitl [Hs]; · iexact Hs
    isplitl [Hd HG]
    · isplitl [Hd]; · iexact Hd
      iexact HG
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

/-- The same, the source going with the arrival. -/
theorem send_slot_landing (c m : Dev nD) (hm : m = nxt c) (n n' : ℕ) (a a' : Fin 4) (j j' N : ℕ) (q : PosShare TreeShare) (X : S1x512x1024.Idx → Elt F e)
    {α : Type} {Q : α → sProp 𝕄} {k : PUnit → Prog (TpuEff nD τ sig (Elt F) Λ₀ .tc) α} {o o' : Fin 3 → ℕ} {ih ih'}
    (ho : o = slo n) (ho' : o' = slo n') {sS sR : DmaSem sig} (hS : sS = dmaD a j) (hR : sR = dmaD a' j')
    {hsc : (slotQ b o' ih' : Memref sig (Dev.tc m : Thread nD τ).2.kind .vmem S512x1024 e).view.ref.isScScratch = false}
    {hsrc : (slotQ b o ih).view.WordExact} {hdst : (slotQ b o' ih').view.WordExact}
    {hsem : DmaTarget.Typed .vmem (.dma sR) (.remote (Dev.tc m : Thread nD τ) (slotQ b o' ih') (.dma sS) hsc)}
    (hN : (slotQ b o' ih').view.amount (.dma sR) = N)
    (hd₁ : (rd P).duties (dmaC a c j) 0 = {false}) (hd₂ : (rd P).duties (dmaC a' (nxt c) j') 0 = {false})
    (ha₁ : (rd P).amount (dmaC a c j) 0 false = N) (ha₂ : (rd P).amount (dmaC a' (nxt c) j') 0 false = N)
    (O₀ O : CellTallies nD τ sig Unit) (hO : O₀ = O + tallyAt (dmaC a' (nxt c) j') () N)
    (hpay₁ : (emp : sProp 𝕄) ⊢ (rd P).payload (dmaC a c j) 0 false)
    (hpay₂ : iprop(ownsTc (nxt c) (slotAt b (slo n') (slo_inb n')) fullShare X ∗ ownsTc c (slotAt b (slo n) (slo_inb n)) q X)
      ⊢ (rd P).payload (dmaC a' (nxt c) j') 0 false) :
    iprop(records P K ∗ ownsTc c (slotAt b (slo n) (slo_inb n)) q X ∗ (∃ Y, ownsTc (nxt c) (slotAt b (slo n') (slo_inb n')) fullShare Y) ∗ owesE c O₀
        ∗ dutyTok ER (dmaC a c j) 0 false ∗ dutyTok ER (dmaC a' (nxt c) j') 0 false)
      ⊢ iprop(((cred (tallyAt (dmaC a c j) () N) ∗ owesE c O) -∗ wpc c (k ⟨⟩) Q)
        -∗ wpc c (.op (.enqueueDma (slotQ b o ih) (.remote (Dev.tc m : Thread nD τ) (slotQ b o' ih') (.dma sS) hsc) (.dma sR) hsrc hdst hsem) k) Q) := by
  subst hm ho ho' hS hR
  unfold owesE
  iintro ⟨#HR, Hs, ⟨%Y, Hd⟩, ⟨%W, HO⟩, Ht1, Ht2⟩ Hk
  ihave HR1 := (rec_dma P K a c j) $$ HR
  icases HR1 with ⟨#HI1, #Hr1⟩
  ihave HR2 := (rec_dma P K a' (nxt c) j') $$ HR
  icases HR2 with ⟨#HI2, #Hr2⟩
  ihave Hs' := (slot_out b c n q X) $$ Hs
  icases Hs' with ⟨%fs, %hfs, Hs⟩
  ihave Hd' := (slot_out b (nxt c) n' fullShare Y) $$ Hd
  icases Hd' with ⟨%fd, %hfd, Hd⟩
  iapply (Rounds.wp_send_landing_pointsTo 𝒱₀ ER (rd P) (c : Thread nD τ) none (c' := (nxt c : Thread nD τ)) (src := slotQ b (slo n) ih) (dst := slotQ b (slo n') ih')
    (κ₁ := kn K a c j) (κ₂ := kn K a' (nxt c) j')
    (r₁ := 0) (r₂ := 0) (d₁ := false) (d₂ := false) (fs := fs) (fd := fd) (q := q)
    (by rw [hd₁]; exact Finset.mem_singleton_self _) (by rw [hd₂]; exact Finset.mem_singleton_self _)
    () () N hN ha₁ ha₂ O hO (W := W) hpay₁
    ((BI.sep_mono (slot_in b (nxt c) n' fullShare ((read_copied b n n' fd fs).trans hfs)) (slot_in b c n q hfs)).trans hpay₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

end Send

/-- What sum hop `h` needs besides its source: the slot it fills and, short of the last hop, the first slot of the device
    the chunk belongs to, which travels on. -/
def aDst (c : Dev nD) (h : ℕ) : sProp 𝕄 :=
  if h = 15 then aAny (nxt c) 0 else iprop(aAny (nxt c) (h + 1) ∗ aAny (back h c) 0)

section Pay
variable (c : Dev nD)

omit [FloatOps F] in
theorem pay_xs {h : ℕ} (hh : h < 15) : ownsTc c (xS h) fullShare.left (P.x (back h c)) ⊢ (rd P).payload (xsC c h) 0 false := by
  rw [payload_xs P c (by omega)]; exact BI.Entails.refl _
omit [FloatOps F] in
theorem pay_xr {h : ℕ} (hh : h < 15) :
    iprop(ownsTc (nxt c) (xS (h + 1)) fullShare (P.x (back h c)) ∗ emp) ⊢ (rd P).payload (xrC (nxt c) (h + 1)) 0 false := by
  rw [payload_xr P (nxt c) (by omega)]; unfold xrPay
  rw [back_succ_nxt]
  iintro ⟨H, -⟩
  iexact H
omit [FloatOps F] in
theorem pay_as0 : (emp : sProp 𝕄) ⊢ (rd P).payload (asC c 0) 0 false := by
  rw [payload_as P c (by decide)]; unfold asPay; rw [if_pos rfl]
omit [FloatOps F] in
theorem pay_ar0 : iprop(ownsTc (nxt c) (aS 1) fullShare (P.acc 0 c) ∗ ownsTc c (aS 0) fullShare (P.acc 0 c)) ⊢ (rd P).payload (arC (nxt c) 1) 0 false := by
  rw [payload_ar P (nxt c) (by decide)]; unfold arPay aAny
  rw [if_neg (by decide), prv_nxt, back_succ_nxt, back_zero]
  iintro ⟨H, H'⟩
  isplitl [H]; · iexact H
  iexists _; iexact H'
omit [FloatOps F] in
theorem pay_as {h : ℕ} (h1 : 1 ≤ h) (hh : h < 16) : ownsTc c (aS h) fullShare (P.acc h c) ⊢ (rd P).payload (asC c h) 0 false := by
  rw [payload_as P c hh]; unfold asPay aAny
  rw [if_neg (by omega)]
  iintro H
  iexists _; iexact H
omit [FloatOps F] in
theorem pay_ar {h : ℕ} (hh : h < 15) :
    iprop(ownsTc (nxt c) (aS (h + 1)) fullShare (P.acc h c) ∗ aAny (back h c) 0) ⊢ (rd P).payload (arC (nxt c) (h + 1)) 0 false := by
  rw [payload_ar P (nxt c) (by omega)]; unfold arPay
  rw [if_neg (by omega), prv_nxt, back_succ_nxt, Nat.add_sub_cancel]
omit [FloatOps F] in
theorem pay_ar_last : iprop(ownsTc (nxt c) (aS 0) fullShare (P.acc 15 c) ∗ emp) ⊢ (rd P).payload (arC (nxt c) (15 + 1)) 0 false := by
  rw [show arC (nxt c) (15 + 1) = arC (nxt c) 0 from dmaC_mod rfl, payload_ar P (nxt c) (by decide)]; unfold arPay
  rw [if_pos rfl, prv_nxt]
  iintro ⟨H, -⟩
  iexact H

end Pay

/-- Chunk hop `h`: half of the sender's slot is lent to the copy, the receiver's next slot is filled. -/
theorem send_x (c n' : Dev nD) (hn : n' = nxt c) (h i : ℕ) (hh : h < 15) {α : Type} {Q : α → sProp 𝕄}
    {k : PUnit → Prog (TpuEff nD τ sig (Elt F) Λ₀ .tc) α} {o o' : Fin 3 → ℕ} {ih ih'} (ho : o = slo h) (ho' : o' = slo (h + 1))
    {sS sR : DmaSem sig} (hS : sS = dmaD 0 h) (hR : sR = dmaD 1 (h + 1))
    {hsc : (slotQ (Memref.whole cc0_scratch0) o' ih' : Memref sig (Dev.tc n' : Thread nD τ).2.kind .vmem S512x1024 .bf16).view.ref.isScScratch = false}
    {hsrc : (slotQ (Memref.whole cc0_scratch0) o ih : Memref sig .tc .vmem S512x1024 .bf16).view.WordExact}
    {hdst : (slotQ (Memref.whole cc0_scratch0) o' ih' : Memref sig .tc .vmem S512x1024 .bf16).view.WordExact}
    {hsem : DmaTarget.Typed .vmem (.dma sR) (.remote (Dev.tc n' : Thread nD τ) (slotQ (Memref.whole cc0_scratch0) o' ih' : Memref sig .tc .vmem S512x1024 .bf16) (.dma sS) hsc)} :
    iprop(records P K ∗ ownsTc c (xS h) fullShare.left (P.x (back h c)) ∗ xAny (nxt c) (h + 1) ∗ owesE c (owed c h i)
        ∗ dutyTok ER (xsC c h) 0 false ∗ dutyTok ER (xrC (nxt c) (h + 1)) 0 false)
      ⊢ iprop(((cred (tallyAt (xsC c h) () NX) ∗ owesE c (owed c (h + 1) i)) -∗ wpc c (k ⟨⟩) Q)
        -∗ wpc c (.op (.enqueueDma (slotQ (Memref.whole cc0_scratch0) o ih) (.remote (Dev.tc n' : Thread nD τ) (slotQ (Memref.whole cc0_scratch0) o' ih') (.dma sS) hsc)
            (.dma sR) hsrc hdst hsem) k) Q) := by
  unfold xAny
  iintro ⟨#HR, Hs, Hd, HO, Ht1, Ht2⟩
  iapply (send_slot P K (Memref.whole cc0_scratch0) c n' hn h (h + 1) 0 1 h (h + 1) NX fullShare.left (P.x (back h c)) iprop(emp) ho ho' hS hR (amt_x _ _ _)
    (duties_xs P c hh) (duties_xr P (nxt c) hh) (amount_xs P c h false) (amount_xr P (nxt c) (h + 1) false)
    (owed c h i) (owed c (h + 1) i) (owed_x c i hh) (pay_xs P c hh) (pay_xr P c hh))
  isplitr; · iexact HR
  isplitl [Hs]; · iexact Hs
  isplitl [Hd]; · iexact Hd
  isplitr; · iempintro
  isplitl [HO]; · iexact HO
  isplitl [Ht1]; · iexact Ht1
  iexact Ht2

/-- The first sum hop: the sender's slot itself travels on with the arrival. -/
theorem send_a0 (c n' : Dev nD) (hn : n' = nxt c) (i : ℕ) {α : Type} {Q : α → sProp 𝕄}
    {k : PUnit → Prog (TpuEff nD τ sig (Elt F) Λ₀ .tc) α} {o o' : Fin 3 → ℕ} {ih ih'} (ho : o = slo 0) (ho' : o' = slo 1)
    {sS sR : DmaSem sig} (hS : sS = dmaD 2 0) (hR : sR = dmaD 3 1)
    {hsc : (slotQ (Memref.whole cc0_scratch1) o' ih' : Memref sig (Dev.tc n' : Thread nD τ).2.kind .vmem S512x1024 .f32).view.ref.isScScratch = false}
    {hsrc : (slotQ (Memref.whole cc0_scratch1) o ih : Memref sig .tc .vmem S512x1024 .f32).view.WordExact}
    {hdst : (slotQ (Memref.whole cc0_scratch1) o' ih' : Memref sig .tc .vmem S512x1024 .f32).view.WordExact}
    {hsem : DmaTarget.Typed .vmem (.dma sR) (.remote (Dev.tc n' : Thread nD τ) (slotQ (Memref.whole cc0_scratch1) o' ih' : Memref sig .tc .vmem S512x1024 .f32) (.dma sS) hsc)} :
    iprop(records P K ∗ ownsTc c (aS 0) fullShare (P.acc 0 c) ∗ aAny (nxt c) 1 ∗ owesE c (owed c i 0)
        ∗ dutyTok ER (asC c 0) 0 false ∗ dutyTok ER (arC (nxt c) 1) 0 false)
      ⊢ iprop(((cred (tallyAt (asC c 0) () NA) ∗ owesE c (owed c i 1)) -∗ wpc c (k ⟨⟩) Q)
        -∗ wpc c (.op (.enqueueDma (slotQ (Memref.whole cc0_scratch1) o ih) (.remote (Dev.tc n' : Thread nD τ) (slotQ (Memref.whole cc0_scratch1) o' ih') (.dma sS) hsc)
            (.dma sR) hsrc hdst hsem) k) Q) := by
  unfold aAny
  exact send_slot_landing P K (Memref.whole cc0_scratch1) c n' hn 0 1 2 3 0 1 NA fullShare (P.acc 0 c) ho ho' hS hR (amt_a _ _ _)
    (duties_as P c 0) (duties_ar P (nxt c) 1) (amount_as P c 0 false) (amount_ar P (nxt c) 1 false)
    (owed c i 0) (owed c i 1) (owed_a c i (by decide)) (pay_as0 P c) (pay_ar0 P c)

/-- A later sum hop. -/
theorem send_a (c n' : Dev nD) (hn : n' = nxt c) (h i : ℕ) (h1 : 1 ≤ h) (hh : h < 16) {α : Type} {Q : α → sProp 𝕄}
    {k : PUnit → Prog (TpuEff nD τ sig (Elt F) Λ₀ .tc) α} {o o' : Fin 3 → ℕ} {ih ih'} (ho : o = slo h) (ho' : o' = slo (h + 1))
    {sS sR : DmaSem sig} (hS : sS = dmaD 2 h) (hR : sR = dmaD 3 (h + 1))
    {hsc : (slotQ (Memref.whole cc0_scratch1) o' ih' : Memref sig (Dev.tc n' : Thread nD τ).2.kind .vmem S512x1024 .f32).view.ref.isScScratch = false}
    {hsrc : (slotQ (Memref.whole cc0_scratch1) o ih : Memref sig .tc .vmem S512x1024 .f32).view.WordExact}
    {hdst : (slotQ (Memref.whole cc0_scratch1) o' ih' : Memref sig .tc .vmem S512x1024 .f32).view.WordExact}
    {hsem : DmaTarget.Typed .vmem (.dma sR) (.remote (Dev.tc n' : Thread nD τ) (slotQ (Memref.whole cc0_scratch1) o' ih' : Memref sig .tc .vmem S512x1024 .f32) (.dma sS) hsc)} :
    iprop(records P K ∗ ownsTc c (aS h) fullShare (P.acc h c) ∗ aDst c h ∗ owesE c (owed c i h)
        ∗ dutyTok ER (asC c h) 0 false ∗ dutyTok ER (arC (nxt c) (h + 1)) 0 false)
      ⊢ iprop(((cred (tallyAt (asC c h) () NA) ∗ owesE c (owed c i (h + 1))) -∗ wpc c (k ⟨⟩) Q)
        -∗ wpc c (.op (.enqueueDma (slotQ (Memref.whole cc0_scratch1) o ih) (.remote (Dev.tc n' : Thread nD τ) (slotQ (Memref.whole cc0_scratch1) o' ih') (.dma sS) hsc)
            (.dma sR) hsrc hdst hsem) k) Q) := by
  by_cases hl : h = 15
  · subst hl
    unfold aDst aAny
    rw [if_pos rfl]
    iintro ⟨#HR, Hs, Hd, HO, Ht1, Ht2⟩
    iapply (send_slot P K (Memref.whole cc0_scratch1) c n' hn 15 0 2 3 15 (15 + 1) NA fullShare (P.acc 15 c) iprop(emp) ho (ho'.trans rfl) hS hR (amt_a _ _ _)
      (duties_as P c 15) (duties_ar P (nxt c) (15 + 1)) (amount_as P c 15 false) (amount_ar P (nxt c) (15 + 1) false)
      (owed c i 15) (owed c i (15 + 1)) (owed_a c i (by decide)) (pay_as P c h1 hh) (pay_ar_last P c))
    isplitr; · iexact HR
    isplitl [Hs]; · iexact Hs
    isplitl [Hd]; · iexact Hd
    isplitr; · iempintro
    isplitl [HO]; · iexact HO
    isplitl [Ht1]; · iexact Ht1
    iexact Ht2
  · unfold aDst
    rw [if_neg hl]
    iintro ⟨#HR, Hs, ⟨Hd, HF⟩, HO, Ht1, Ht2⟩
    iapply (send_slot P K (Memref.whole cc0_scratch1) c n' hn h (h + 1) 2 3 h (h + 1) NA fullShare (P.acc h c) (aAny (back h c) 0) ho ho' hS hR (amt_a _ _ _)
      (duties_as P c h) (duties_ar P (nxt c) (h + 1)) (amount_as P c h false) (amount_ar P (nxt c) (h + 1) false)
      (owed c i h) (owed c i (h + 1)) (owed_a c i hh) (pay_as P c h1 hh) (pay_ar P c (by omega)))
    isplitr; · iexact HR
    isplitl [Hs]; · iexact Hs
    isplitl [Hd]; · unfold aAny; iexact Hd
    isplitl [HF]; · iexact HF
    isplitl [HO]; · iexact HO
    isplitl [Ht1]; · iexact Ht1
    iexact Ht2

/-- A wait of a chunk hop, and of a sum hop. -/
theorem wait_x (a : Fin 4) (c : Dev nD) (n i k' : ℕ) {s : DmaSem sig} {α : Type} {Q : α → sProp 𝕄}
    {k : PUnit → Prog (TpuEff nD τ sig (Elt F) Λ₀ .tc) α} {o o' : Fin 3 → ℕ} {ih ih'}
    (hs : s = dmaD a n) (hd : (rd P).duties (dmaC a c n) 0 = {false}) (ha : (rd P).amount (dmaC a c n) 0 false = NX)
    (b : ℕ) (hb : lv (dmaC a c n) () ≤ b) (hi : b < i + 2) (hk : b < k' + 2)
    {h1 : (slotQ (Memref.whole cc0_scratch0) o ih : Memref sig .tc .vmem S512x1024 .bf16).view.WordExact}
    {h2 : (slotQ (Memref.whole cc0_scratch0) o' ih' : Memref sig .tc .vmem S512x1024 .bf16).view.WordExact} :
    iprop(records P K ∗ levAts L lv ∗ cred (tallyAt (dmaC a c n) () NX) ∗ owesE c (owed c i k') ∗ atPos ER (dmaC a c n) 0 ∅ 0)
      ⊢ iprop(((owesE c (owed c i k') ∗ atPos ER (dmaC a c n) 1 ∅ 0 ∗ (rd P).payload (dmaC a c n) 0 false) -∗ wpc c (k ⟨⟩) Q)
        -∗ wpc c (.op (.waitDma2 s (slotQ (Memref.whole cc0_scratch0) o ih) (slotQ (Memref.whole cc0_scratch0) o' ih') h1 h2) k) Q) :=
  wait_dma P K a c n NX i k' (src := (slotQ (Memref.whole cc0_scratch0) o ih : Memref sig .tc .vmem S512x1024 .bf16))
    (dst := (slotQ (Memref.whole cc0_scratch0) o' ih' : Memref sig .tc .vmem S512x1024 .bf16)) (h1 := h1) (h2 := h2) hs rfl hd ha b hb hi hk
theorem wait_a (a : Fin 4) (c : Dev nD) (n i k' : ℕ) {s : DmaSem sig} {α : Type} {Q : α → sProp 𝕄}
    {k : PUnit → Prog (TpuEff nD τ sig (Elt F) Λ₀ .tc) α} {o o' : Fin 3 → ℕ} {ih ih'}
    (hs : s = dmaD a n) (hd : (rd P).duties (dmaC a c n) 0 = {false}) (ha : (rd P).amount (dmaC a c n) 0 false = NA)
    (b : ℕ) (hb : lv (dmaC a c n) () ≤ b) (hi : b < i + 2) (hk : b < k' + 2)
    {h1 : (slotQ (Memref.whole cc0_scratch1) o ih : Memref sig .tc .vmem S512x1024 .f32).view.WordExact}
    {h2 : (slotQ (Memref.whole cc0_scratch1) o' ih' : Memref sig .tc .vmem S512x1024 .f32).view.WordExact} :
    iprop(records P K ∗ levAts L lv ∗ cred (tallyAt (dmaC a c n) () NA) ∗ owesE c (owed c i k') ∗ atPos ER (dmaC a c n) 0 ∅ 0)
      ⊢ iprop(((owesE c (owed c i k') ∗ atPos ER (dmaC a c n) 1 ∅ 0 ∗ (rd P).payload (dmaC a c n) 0 false) -∗ wpc c (k ⟨⟩) Q)
        -∗ wpc c (.op (.waitDma2 s (slotQ (Memref.whole cc0_scratch1) o ih) (slotQ (Memref.whole cc0_scratch1) o' ih') h1 h2) k) Q) :=
  wait_dma P K a c n NA i k' (src := (slotQ (Memref.whole cc0_scratch1) o ih : Memref sig .tc .vmem S512x1024 .f32))
    (dst := (slotQ (Memref.whole cc0_scratch1) o' ih' : Memref sig .tc .vmem S512x1024 .f32)) (h1 := h1) (h2 := h2) hs rfl hd ha b hb hi hk

end Cert.RingProof

end
-- ==== Proof.Trip.lean ====
/-
  One trip of the loop, at a symbolic device and a symbolic hop.
-/
module

public import proofs.«01_k».proof.Proof.Rules
public import Idealize.SL.BI.BigOpNat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The staged operands -/

/-- What the staging buffers of one device hold: its chunk, its weights' columns and rows, its heads' keys and values. -/
structure Stg (F : FTy → Type) where
  x : (cc0_stg0_0 : Ref sig .tc).ty.Contents (Elt F)
  wq : (cc0_stg1_0 : Ref sig .tc).ty.Contents (Elt F)
  wo : (cc0_stg2_0 : Ref sig .tc).ty.Contents (Elt F)
  kk : (cc0_stg3_0 : Ref sig .tc).ty.Contents (Elt F)
  vv : (cc0_stg4_0 : Ref sig .tc).ty.Contents (Elt F)

def ldX (f : (cc0_stg0_0 : Ref sig .tc).ty.Contents (Elt F)) : Vec F S512x1024 .bf16 :=
  ((Memref.whole cc0_stg0_0 : Memref sig .tc .vmem S512x1024 .bf16).access (Rect.unit (s := S512x1024) ![0, 0] S512x1024.size inb_S512x1024_S512x1024_0_0)).read (Elt F) f
def ldQ (f : (cc0_stg1_0 : Ref sig .tc).ty.Contents (Elt F)) : Vec F S1024x1024 .bf16 :=
  ((Memref.whole cc0_stg1_0 : Memref sig .tc .vmem S1024x1024 .bf16).access (Rect.unit (s := S1024x1024) ![0, 0] S1024x1024.size inb_S1024x1024_S1024x1024_0_0)).read (Elt F) f
def ldO (f : (cc0_stg2_0 : Ref sig .tc).ty.Contents (Elt F)) : Vec F S1024x1024 .bf16 :=
  ((Memref.whole cc0_stg2_0 : Memref sig .tc .vmem S1024x1024 .bf16).access (Rect.unit (s := S1024x1024) ![0, 0] S1024x1024.size inb_S1024x1024_S1024x1024_0_0)).read (Elt F) f
/-- The keys (the values) of the head that starts at column `o`. -/
def ldK (o : ℕ) (h : ∀ a, (![0, o] : Fin 2 → ℕ) a + S2048x128.size a ≤ S2048x1024.size a) (f : (cc0_stg3_0 : Ref sig .tc).ty.Contents (Elt F)) : Vec F S2048x128 .bf16 :=
  ((Memref.whole cc0_stg3_0 : Memref sig .tc .vmem S2048x1024 .bf16).access (Rect.unit (s := S2048x1024) ![0, o] S2048x128.size h)).read (Elt F) f
def ldV (o : ℕ) (h : ∀ a, (![0, o] : Fin 2 → ℕ) a + S2048x128.size a ≤ S2048x1024.size a) (f : (cc0_stg4_0 : Ref sig .tc).ty.Contents (Elt F)) : Vec F S2048x128 .bf16 :=
  ((Memref.whole cc0_stg4_0 : Memref sig .tc .vmem S2048x1024 .bf16).access (Rect.unit (s := S2048x1024) ![0, o] S2048x128.size h)).read (Elt F) f

/-- The sum a device makes of its own chunk, -/
def firstA (s : Stg F) (X : Vec F S1x512x1024 .bf16) : Vec F S1x512x1024 .f32 :=
  let v35 := k0_pay18 X (ldQ s.wq)
  k0_pay33 v35 (k0_pay19 X (ldQ s.wq) (ldK 0 inb_S2048x1024_S2048x128_0_0 s.kk) (ldV 0 inb_S2048x1024_S2048x128_0_0 s.vv))
    (k0_pay23 (k0_pay21 X (ldQ s.wq) (ldK 128 inb_S2048x1024_S2048x128_0_128 s.kk)) (k0_pay22 X (ldQ s.wq) (ldK 128 inb_S2048x1024_S2048x128_0_128 s.kk)) (ldV 128 inb_S2048x1024_S2048x128_0_128 s.vv))
    (k0_pay24 v35 (ldK 256 inb_S2048x1024_S2048x128_0_256 s.kk) (ldV 256 inb_S2048x1024_S2048x128_0_256 s.vv)) (k0_pay25 v35 (ldK 384 inb_S2048x1024_S2048x128_0_384 s.kk) (ldV 384 inb_S2048x1024_S2048x128_0_384 s.vv))
    (k0_pay28 (k0_pay26 v35) (k0_pay27 (ldK 512 inb_S2048x1024_S2048x128_0_512 s.kk)) (constant S512x2048 .f32 0x00000000#32) (ldV 512 inb_S2048x1024_S2048x128_0_512 s.vv))
    (k0_pay29 v35 (ldK 640 inb_S2048x1024_S2048x128_0_640 s.kk) (ldV 640 inb_S2048x1024_S2048x128_0_640 s.vv)) (k0_pay31 v35 (ldK 768 inb_S2048x1024_S2048x128_0_768 s.kk)) (k0_pay32 v35 (ldK 768 inb_S2048x1024_S2048x128_0_768 s.kk)) (ldV 768 inb_S2048x1024_S2048x128_0_768 s.vv) (ldK 896 inb_S2048x1024_S2048x128_0_896 s.kk) (ldV 896 inb_S2048x1024_S2048x128_0_896 s.vv) (ldO s.wo)

/-- and the sum it makes of a chunk that has come with a sum `A`. -/
def nextA (s : Stg F) (X : Vec F S1x512x1024 .bf16) (A : Vec F S1x512x1024 .f32) : Vec F S1x512x1024 .f32 :=
  let v237 := k0_pay2 (k0_pay1 X) (ldQ s.wq)
  k0_pay16 (k0_pay3 (k0_pay1 X) (ldQ s.wq) (ldK 0 inb_S2048x1024_S2048x128_0_0 s.kk) (ldV 0 inb_S2048x1024_S2048x128_0_0 s.vv)) (k0_pay4 (k0_pay1 X) (ldQ s.wq) (ldK 128 inb_S2048x1024_S2048x128_0_128 s.kk) (ldV 128 inb_S2048x1024_S2048x128_0_128 s.vv))
    (k0_pay6 (k0_pay5 (k0_pay1 X) (ldQ s.wq) (ldK 256 inb_S2048x1024_S2048x128_0_256 s.kk)) (Scalar.ofBits .f32 0x3DB504F3#32) (ldV 256 inb_S2048x1024_S2048x128_0_256 s.vv))
    (k0_pay7 v237 (ldK 384 inb_S2048x1024_S2048x128_0_384 s.kk) (ldV 384 inb_S2048x1024_S2048x128_0_384 s.vv))
    (k0_pay12 (k0_pay9 v237 (ldK 512 inb_S2048x1024_S2048x128_0_512 s.kk)) (k0_pay10 v237 (ldK 512 inb_S2048x1024_S2048x128_0_512 s.kk)) (k0_pay11 (ldV 512 inb_S2048x1024_S2048x128_0_512 s.vv)) (constant S512x128 .f32 0x00000000#32))
    (k0_pay13 v237 (ldK 640 inb_S2048x1024_S2048x128_0_640 s.kk) (ldV 640 inb_S2048x1024_S2048x128_0_640 s.vv)) (k0_pay14 v237 (ldK 768 inb_S2048x1024_S2048x128_0_768 s.kk) (ldV 768 inb_S2048x1024_S2048x128_0_768 s.vv)) (k0_pay15 v237 (ldK 896 inb_S2048x1024_S2048x128_0_896 s.kk)) (Scalar.ofBits .f32 0x3DB504F3#32) (ldV 896 inb_S2048x1024_S2048x128_0_896 s.vv) (ldO s.wo) A

/-- A device's chunk in the form of a slot. -/
def chunk (s : Stg F) : Vec F S1x512x1024 .bf16 := k0_pay17 (ldX s.x)

/-- The sum device `c` makes of the chunk that has reached it after `t` hops. -/
def accOf (S : Dev nD → Stg F) : ℕ → Dev nD → Vec F S1x512x1024 .f32
  | 0, c => firstA (S c) (chunk (S c))
  | t + 1, c => nextA (S c) (chunk (S (back (t + 1) c))) (accOf S t (prv c))

def valsOf (S : Dev nD → Stg F) : Vals F := ⟨fun d => chunk (S d), accOf S⟩

variable (c : Dev nD) (s : Stg F)

abbrev ptX : sProp 𝕄 := ((c : Thread nD τ).loc cc0_stg0_0) ↦{fullShare} s.x
abbrev ptQ : sProp 𝕄 := ((c : Thread nD τ).loc cc0_stg1_0) ↦{fullShare} s.wq
abbrev ptO : sProp 𝕄 := ((c : Thread nD τ).loc cc0_stg2_0) ↦{fullShare} s.wo
abbrev ptK : sProp 𝕄 := ((c : Thread nD τ).loc cc0_stg3_0) ↦{fullShare} s.kk
abbrev ptV : sProp 𝕄 := ((c : Thread nD τ).loc cc0_stg4_0) ↦{fullShare} s.vv

theorem wpc_ret {α : Type} {Q : α → sProp 𝕄} {a : α} :
    Q a ⊢ wpc c (.ret a : Prog (TpuEff nD τ sig (Elt F) Λ₀ .tc) α) Q := by
  unfold wpc
  rw [wp_ret]
  exact fupd_intro

section Loads

theorem load_x {α : Type} {Q : α → sProp 𝕄} {hl} {k : Vec F S512x1024 .bf16 → Prog (TpuEff nD τ sig (Elt F) Λ₀ .tc) α} :
    ptX c s ⊢ iprop((ptX c s -∗ wpc c (k (ldX s.x)) Q)
      -∗ wpc c (.op (.load (Memref.whole cc0_stg0_0 : Memref sig .tc .vmem S512x1024 .bf16) (Rect.unit (s := S512x1024) ![0, 0] S512x1024.size inb_S512x1024_S512x1024_0_0).toLoadRect hl) k) Q) :=
  wp_load_rect 𝒱₀ (c : Thread nD τ) none Set.univ (m := (Memref.whole cc0_stg0_0 : Memref sig .tc .vmem S512x1024 .bf16)) (r := Rect.unit (s := S512x1024) ![0, 0] S512x1024.size inb_S512x1024_S512x1024_0_0)
    (S := Finset.univ) (f := s.x) (k := k) (Q := Q) (Finset.subset_univ _)
theorem load_q {α : Type} {Q : α → sProp 𝕄} {hl} {k : Vec F S1024x1024 .bf16 → Prog (TpuEff nD τ sig (Elt F) Λ₀ .tc) α} :
    ptQ c s ⊢ iprop((ptQ c s -∗ wpc c (k (ldQ s.wq)) Q)
      -∗ wpc c (.op (.load (Memref.whole cc0_stg1_0 : Memref sig .tc .vmem S1024x1024 .bf16) (Rect.unit (s := S1024x1024) ![0, 0] S1024x1024.size inb_S1024x1024_S1024x1024_0_0).toLoadRect hl) k) Q) :=
  wp_load_rect 𝒱₀ (c : Thread nD τ) none Set.univ (m := (Memref.whole cc0_stg1_0 : Memref sig .tc .vmem S1024x1024 .bf16)) (r := Rect.unit (s := S1024x1024) ![0, 0] S1024x1024.size inb_S1024x1024_S1024x1024_0_0)
    (S := Finset.univ) (f := s.wq) (k := k) (Q := Q) (Finset.subset_univ _)
theorem load_o {α : Type} {Q : α → sProp 𝕄} {hl} {k : Vec F S1024x1024 .bf16 → Prog (TpuEff nD τ sig (Elt F) Λ₀ .tc) α} :
    ptO c s ⊢ iprop((ptO c s -∗ wpc c (k (ldO s.wo)) Q)
      -∗ wpc c (.op (.load (Memref.whole cc0_stg2_0 : Memref sig .tc .vmem S1024x1024 .bf16) (Rect.unit (s := S1024x1024) ![0, 0] S1024x1024.size inb_S1024x1024_S1024x1024_0_0).toLoadRect hl) k) Q) :=
  wp_load_rect 𝒱₀ (c : Thread nD τ) none Set.univ (m := (Memref.whole cc0_stg2_0 : Memref sig .tc .vmem S1024x1024 .bf16)) (r := Rect.unit (s := S1024x1024) ![0, 0] S1024x1024.size inb_S1024x1024_S1024x1024_0_0)
    (S := Finset.univ) (f := s.wo) (k := k) (Q := Q) (Finset.subset_univ _)
theorem load_k {α : Type} {Q : α → sProp 𝕄} {o : ℕ} {h} {hl} {k : Vec F S2048x128 .bf16 → Prog (TpuEff nD τ sig (Elt F) Λ₀ .tc) α} :
    ptK c s ⊢ iprop((ptK c s -∗ wpc c (k (ldK o h s.kk)) Q)
      -∗ wpc c (.op (.load (Memref.whole cc0_stg3_0 : Memref sig .tc .vmem S2048x1024 .bf16) (Rect.unit (s := S2048x1024) ![0, o] S2048x128.size h).toLoadRect hl) k) Q) :=
  wp_load_rect 𝒱₀ (c : Thread nD τ) none Set.univ (m := (Memref.whole cc0_stg3_0 : Memref sig .tc .vmem S2048x1024 .bf16)) (r := Rect.unit (s := S2048x1024) ![0, o] S2048x128.size h)
    (S := Finset.univ) (f := s.kk) (k := k) (Q := Q) (Finset.subset_univ _)
theorem load_v {α : Type} {Q : α → sProp 𝕄} {o : ℕ} {h} {hl} {k : Vec F S2048x128 .bf16 → Prog (TpuEff nD τ sig (Elt F) Λ₀ .tc) α} :
    ptV c s ⊢ iprop((ptV c s -∗ wpc c (k (ldV o h s.vv)) Q)
      -∗ wpc c (.op (.load (Memref.whole cc0_stg4_0 : Memref sig .tc .vmem S2048x1024 .bf16) (Rect.unit (s := S2048x1024) ![0, o] S2048x128.size h).toLoadRect hl) k) Q) :=
  wp_load_rect 𝒱₀ (c : Thread nD τ) none Set.univ (m := (Memref.whole cc0_stg4_0 : Memref sig .tc .vmem S2048x1024 .bf16)) (r := Rect.unit (s := S2048x1024) ![0, o] S2048x128.size h)
    (S := Finset.univ) (f := s.vv) (k := k) (Q := Q) (Finset.subset_univ _)

end Loads

/-! ## The parts that only load and compute -/

theorem part2_spec (v233 : FVec F S512x1024 .bf16) (v234 : Vec F S1024x1024 .bf16) {Q : _ → sProp 𝕄} :
    iprop(ptK c s ∗ ptV c s ∗ ((ptK c s ∗ ptV c s) -∗ Q ⟨k0_pay2 v233 v234, k0_pay3 v233 v234 (ldK 0 inb_S2048x1024_S2048x128_0_0 s.kk) (ldV 0 inb_S2048x1024_S2048x128_0_0 s.vv), k0_pay4 v233 v234 (ldK 128 inb_S2048x1024_S2048x128_0_128 s.kk) (ldV 128 inb_S2048x1024_S2048x128_0_128 s.vv), k0_pay5 v233 v234 (ldK 256 inb_S2048x1024_S2048x128_0_256 s.kk), Scalar.ofBits .f32 0x3DB504F3#32⟩))
      ⊢ wpc c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 v233 v234) Q := by
  rw [k0_part2_eq_skeleton]; unfold k0_part2_skel
  simp only [Prog.lift, Prog.bind_op, Prog.bind_ret, Prog.pure_eq_ret, wp_ret]
  iintro ⟨HK, HV, Hk⟩
  iapply (load_k c s) $$ HK; iintro HK
  iapply (load_v c s) $$ HV; iintro HV
  iapply (load_k c s) $$ HK; iintro HK
  iapply (load_v c s) $$ HV; iintro HV
  iapply (load_k c s) $$ HK; iintro HK
  iapply (wpc_ret c)
  iapply Hk
  isplitl [HK] <;> iassumption

theorem part3_spec (v237 : FVec F S512x1024 .bf16) (v273 : FVec F S512x2048 .f32) (cst : F .f32) {Q : _ → sProp 𝕄} :
    iprop(ptK c s ∗ ptV c s ∗ ((ptK c s ∗ ptV c s) -∗ Q ⟨k0_pay6 v273 cst (ldV 256 inb_S2048x1024_S2048x128_0_256 s.vv), k0_pay7 v237 (ldK 384 inb_S2048x1024_S2048x128_0_384 s.kk) (ldV 384 inb_S2048x1024_S2048x128_0_384 s.vv), k0_pay9 v237 (ldK 512 inb_S2048x1024_S2048x128_0_512 s.kk), k0_pay10 v237 (ldK 512 inb_S2048x1024_S2048x128_0_512 s.kk), k0_pay11 (ldV 512 inb_S2048x1024_S2048x128_0_512 s.vv), constant S512x128 .f32 0x00000000#32⟩))
      ⊢ wpc c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 v237 v273 cst) Q := by
  rw [k0_part3_eq_skeleton]; unfold k0_part3_skel
  simp only [Prog.lift, Prog.bind_op, Prog.bind_ret, Prog.pure_eq_ret, wp_ret]
  iintro ⟨HK, HV, Hk⟩
  iapply (load_v c s) $$ HV; iintro HV
  iapply (load_k c s) $$ HK; iintro HK
  iapply (load_v c s) $$ HV; iintro HV
  iapply (load_k c s) $$ HK; iintro HK
  iapply (load_v c s) $$ HV; iintro HV
  iapply (wpc_ret c)
  iapply Hk
  isplitl [HK] <;> iassumption

theorem part4_spec (v237 : FVec F S512x1024 .bf16) (v310 : FVec F S512x1 .f32) (v311 : FVec F S512x2048 .bf16) (v313 : FVec F S2048x128 .bf16) (cst : FVec F S512x128 .f32) {Q : _ → sProp 𝕄} :
    iprop(ptK c s ∗ ptV c s ∗ ((ptK c s ∗ ptV c s) -∗ Q ⟨k0_pay12 v310 v311 v313 cst, k0_pay13 v237 (ldK 640 inb_S2048x1024_S2048x128_0_640 s.kk) (ldV 640 inb_S2048x1024_S2048x128_0_640 s.vv), k0_pay14 v237 (ldK 768 inb_S2048x1024_S2048x128_0_768 s.kk) (ldV 768 inb_S2048x1024_S2048x128_0_768 s.vv), k0_pay15 v237 (ldK 896 inb_S2048x1024_S2048x128_0_896 s.kk), Scalar.ofBits .f32 0x3DB504F3#32⟩))
      ⊢ wpc c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 v237 v310 v311 v313 cst) Q := by
  rw [k0_part4_eq_skeleton]; unfold k0_part4_skel
  simp only [Prog.lift, Prog.bind_op, Prog.bind_ret, Prog.pure_eq_ret, wp_ret]
  iintro ⟨HK, HV, Hk⟩
  iapply (load_k c s) $$ HK; iintro HK
  iapply (load_v c s) $$ HV; iintro HV
  iapply (load_k c s) $$ HK; iintro HK
  iapply (load_v c s) $$ HV; iintro HV
  iapply (load_k c s) $$ HK; iintro HK
  iapply (wpc_ret c)
  iapply Hk
  isplitl [HK] <;> iassumption

theorem part8_spec (v35 : FVec F S512x1024 .bf16) (v60 : FVec F S512x1 .f32) (v61 : FVec F S512x2048 .bf16) (v62 : Vec F S2048x128 .bf16) {Q : _ → sProp 𝕄} :
    iprop(ptK c s ∗ ptV c s ∗ ((ptK c s ∗ ptV c s) -∗ Q ⟨k0_pay23 v60 v61 v62, k0_pay24 v35 (ldK 256 inb_S2048x1024_S2048x128_0_256 s.kk) (ldV 256 inb_S2048x1024_S2048x128_0_256 s.vv), k0_pay25 v35 (ldK 384 inb_S2048x1024_S2048x128_0_384 s.kk) (ldV 384 inb_S2048x1024_S2048x128_0_384 s.vv), k0_pay26 v35, k0_pay27 (ldK 512 inb_S2048x1024_S2048x128_0_512 s.kk), constant S512x2048 .f32 0x00000000#32⟩))
      ⊢ wpc c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 v35 v60 v61 v62) Q := by
  rw [k0_part8_eq_skeleton]; unfold k0_part8_skel
  simp only [Prog.lift, Prog.bind_op, Prog.bind_ret, Prog.pure_eq_ret, wp_ret]
  iintro ⟨HK, HV, Hk⟩
  iapply (load_k c s) $$ HK; iintro HK
  iapply (load_v c s) $$ HV; iintro HV
  iapply (load_k c s) $$ HK; iintro HK
  iapply (load_v c s) $$ HV; iintro HV
  iapply (load_k c s) $$ HK; iintro HK
  iapply (wpc_ret c)
  iapply Hk
  isplitl [HK] <;> iassumption

theorem part9_spec (v35 : FVec F S512x1024 .bf16) (v100 : FVec F S512x128 .bf16) (v102 : FVec F S2048x128 .bf16) (cst : FVec F S512x2048 .f32) {Q : _ → sProp 𝕄} :
    iprop(ptK c s ∗ ptV c s ∗ ((ptK c s ∗ ptV c s) -∗ Q ⟨k0_pay28 v100 v102 cst (ldV 512 inb_S2048x1024_S2048x128_0_512 s.vv), k0_pay29 v35 (ldK 640 inb_S2048x1024_S2048x128_0_640 s.kk) (ldV 640 inb_S2048x1024_S2048x128_0_640 s.vv), k0_pay31 v35 (ldK 768 inb_S2048x1024_S2048x128_0_768 s.kk), k0_pay32 v35 (ldK 768 inb_S2048x1024_S2048x128_0_768 s.kk), (ldV 768 inb_S2048x1024_S2048x128_0_768 s.vv)⟩))
      ⊢ wpc c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 v35 v100 v102 cst) Q := by
  rw [k0_part9_eq_skeleton]; unfold k0_part9_skel
  simp only [Prog.lift, Prog.bind_op, Prog.bind_ret, Prog.pure_eq_ret, wp_ret]
  iintro ⟨HK, HV, Hk⟩
  iapply (load_v c s) $$ HV; iintro HV
  iapply (load_k c s) $$ HK; iintro HK
  iapply (load_v c s) $$ HV; iintro HV
  iapply (load_k c s) $$ HK; iintro HK
  iapply (load_v c s) $$ HV; iintro HV
  iapply (wpc_ret c)
  iapply Hk
  isplitl [HK] <;> iassumption

/-! ## The hops' resources -/

theorem trips_eq : k0_t1_loop.trips = 15 := by decide +kernel
theorem trip_lt (k : Fin k0_t1_loop.trips) : k.val < 15 := lt_of_lt_of_eq k.isLt trips_eq
theorem cond1_iff (k : Fin k0_t1_loop.trips) : k0_cond1 k = 1#1 ↔ k.val < 14 := by revert k; decide +kernel
theorem dev5_eq (k : Fin k0_t1_loop.trips) (h : k0_cond1 k = 1#1) : (⟨k0_dev5 c, k0_dev5_lt c k h⟩ : Dev nD) = nxt c :=
  Fin.ext (k0_dev5_eq c)

theorem slo_of {o : Fin 3 → ℕ} {n n' : ℕ} (h : o = ![n, 0, 0]) (hn : n = n' % 16) : o = slo n' := by rw [h, hn]; rfl
theorem dma_of {A : DmaSems sig S16} {a : Fin 4} (hA : ∀ i : S16.Idx, A.ix i = dmaD a (i 0).val) {o : Fin 1 → ℕ} {n n' : ℕ} (ho : o = ![n]) (hn : n % 16 = n' % 16)
    (h : ∀ a, o a + S1.size a ≤ S16.size a) :
    ((A.slice (Rect.unit (s := S16) o S1.size h)).squeeze S_ squeezes_S1_S_).sem = dmaD a n' := (sem_at hA ho h).trans (dmaD_mod hn)

/-- The waits for chunk hop `h`; what starting it takes; what is left when both its waits are over; the chunk that is held
    while it is in flight. -/
def WX (h : ℕ) : sProp 𝕄 := iprop(atPos ER (xsC c h) 0 ∅ 0 ∗ atPos ER (xrC c (h + 1)) 0 ∅ 0 ∗ cred (tallyAt (xrC c (h + 1)) () NX))
def StX (h : ℕ) : sProp 𝕄 := iprop(dutyTok ER (xsC c h) 0 false ∗ dutyTok ER (xrC (nxt c) (h + 1)) 0 false ∗ xAny (nxt c) (h + 1))
def DX (h : ℕ) : sProp 𝕄 := iprop(atPos ER (xsC c h) 1 ∅ 0 ∗ atPos ER (xrC c (h + 1)) 1 ∅ 0 ∗ xAny c h)
def FX (P : Vals F) (h : ℕ) : sProp 𝕄 := iprop(ownsTc c (xS h) fullShare.right (P.x (back h c))
  ∗ if h < 15 then cred (tallyAt (xsC c h) () NX) else ownsTc c (xS h) fullShare.left (P.x (back h c)))

/-- The same for sum hop `h`. -/
def WA (h : ℕ) : sProp 𝕄 := iprop(atPos ER (asC c h) 0 ∅ 0 ∗ atPos ER (arC c (h + 1)) 0 ∅ 0 ∗ cred (tallyAt (arC c (h + 1)) () NA))
def StA (h : ℕ) : sProp 𝕄 := iprop(dutyTok ER (asC c h) 0 false ∗ dutyTok ER (arC (nxt c) (h + 1)) 0 false ∗ if h = 15 then iprop(emp) else aAny (nxt c) (h + 1))
def DA (h : ℕ) : sProp 𝕄 := iprop(atPos ER (asC c h) 1 ∅ 0 ∗ atPos ER (arC c (h + 1)) 1 ∅ 0 ∗ asPay c h)

variable (P : Vals F) (K : Dev nD × J → ℕ)

/-! ## The parts that communicate -/

theorem part1_spec (v7 b1 b2 : BitVec 32) (k : Fin k0_t1_loop.trips) {Q : _ → sProp 𝕄} :
    iprop(records P K ∗ levAts L lv ∗ owesE c (owed c (k.val + 1) (k.val + 1)) ∗ WX c k.val ∗ FX c P k.val ∗ (bigSep (Finset.Ico (k.val + 1) 15) (StX c)) ∗ ptQ c s
        ∗ (∀ w1 w2, (owesE c (owed c (k.val + 2) (k.val + 1)) ∗ DX c k.val ∗ FX c P (k.val + 1) ∗ (bigSep (Finset.Ico (k.val + 2) 15) (StX c)) ∗ ptQ c s)
          -∗ Q ⟨w1, w2, k0_pay1 (P.x (back (k.val + 1) c)), ldQ s.wq⟩))
      ⊢ wpc c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c v7 b1 b2 k) Q := by
  have hk := trip_lt k
  rw [k0_part1_eq_skeleton]; unfold k0_part1_skel
  simp only [Prog.lift, Prog.bind_op, Prog.bind_ret, Prog.pure_eq_ret]
  unfold WX FX
  rw [if_pos hk]
  iintro ⟨#HR, #Hlev, HO, ⟨HatS, HatR, HcR⟩, ⟨Hx, HcS⟩, HSt, HQ, Hk⟩
  -- the chunk arrives
  iapply (wait_x P K 1 c (k.val + 1) (k.val + 1) (k.val + 1) (dma_of ix_xr (k0_off3_eq k) rfl _) (duties_xr P c hk) (amount_xr P c _ _)
    (k.val + 2) (by rw [lv_xr c hk]) (by omega) (by omega)) $$ [HcR HO HatR]
  · isplitr; · iexact HR
    isplitr; · iexact Hlev
    isplitl [HcR]; · iexact HcR
    isplitl [HO]; · iexact HO
    iexact HatR
  rw [payload_xr P c (by omega)]; unfold xrPay
  iintro ⟨HO, HatR, HX⟩
  -- the chunk sent before is free
  iapply (wait_x P K 0 c k.val (k.val + 1) (k.val + 1) (dma_of ix_xs (k0_off6_eq k) rfl _) (duties_xs P c hk) (amount_xs P c _ _)
    0 (by rw [lv_xs]) (by omega) (by omega)) $$ [HcS HO HatS]
  · isplitr; · iexact HR
    isplitr; · iexact Hlev
    isplitl [HcS]; · iexact HcS
    isplitl [HO]; · iexact HO
    iexact HatS
  rw [payload_xs P c (by omega)]; unfold xsPay
  iintro ⟨HO, HatS, Hx'⟩
  ihave HD := (owns_halves (c : Thread nD τ) (xS k.val) fullShare (P.x (back k.val c))).2 $$ [Hx Hx']
  · isplitl [Hx'] <;> iassumption
  ihave HX2 := (owns_halves (c : Thread nD τ) (xS (k.val + 1)) fullShare (P.x (back (k.val + 1) c))).1 $$ HX
  icases HX2 with ⟨HXl, HXr⟩
  by_cases hc : k0_cond1 k = 1#1
  · have hk' : k.val < 14 := (cond1_iff k).mp hc
    ihave HSt' := (Entails.of_eq (bigSep_Ico_succ_bot (show k.val + 1 < 15 by omega) (StX c))) $$ HSt
    icases HSt' with ⟨HSt1, HSt⟩
    ihave HSt2 := (Entails.of_eq (StX.eq_1 c (k.val + 1))) $$ HSt1
    icases HSt2 with ⟨Ht1, Ht2, Hd⟩
    rw [dif_pos hc]
    iapply (send_x P K c _ (dev5_eq c k hc) (k.val + 1) (k.val + 1) (by omega) (slo_of (k0_off10_eq k) (by omega)) (slo_of (k0_off9_eq k) rfl)
      (dma_of ix_xs (k0_off7_eq k) rfl _) (dma_of ix_xr (k0_off8_eq k) (Nat.mod_mod _ _) _)) $$ [HXl Hd HO Ht1 Ht2]
    · isplitr; · iexact HR
      isplitl [HXl]; · iexact HXl
      isplitl [Hd]; · iexact Hd
      isplitl [HO]; · iexact HO
      isplitl [Ht1]; · iexact Ht1
      iexact Ht2
    iintro ⟨HcS, HO⟩
    iapply (load_slot (Memref.whole cc0_scratch0) c (n := k.val + 1) (slo_of (k0_off11_eq k) (by omega))) $$ HXr; iintro HXr
    iapply (load_q c s) $$ HQ; iintro HQ
    iapply (wpc_ret c)
    iapply Hk
    isplitl [HO]; · iexact HO
    isplitl [HatS HatR HD]
    · unfold DX xAny
      isplitl [HatS]; · iexact HatS
      isplitl [HatR]; · iexact HatR
      iexists _; iexact HD
    isplitl [HXr HcS]
    · isplitl [HXr]; · iexact HXr
      rw [if_pos (show k.val + 1 < 15 by omega)]; iexact HcS
    isplitl [HSt]; · iexact HSt
    iexact HQ
  · have hk' : k.val = 14 := by by_contra hne; exact hc ((cond1_iff k).mpr (by omega))
    rw [dif_neg hc, show Finset.Ico (k.val + 1) 15 = Finset.Ico (k.val + 2) 15 by rw [Finset.Ico_eq_empty (by omega), Finset.Ico_eq_empty (by omega)],
      owed_x_done c (k := k.val + 1) (show 15 ≤ k.val + 1 by omega) (show 15 ≤ k.val + 2 by omega)]
    iapply (load_slot (Memref.whole cc0_scratch0) c (n := k.val + 1) (slo_of (k0_off11_eq k) (by omega))) $$ HXr; iintro HXr
    iapply (load_q c s) $$ HQ; iintro HQ
    iapply (wpc_ret c)
    iapply Hk
    isplitl [HO]; · iexact HO
    isplitl [HatS HatR HD]
    · unfold DX xAny
      isplitl [HatS]; · iexact HatS
      isplitl [HatR]; · iexact HatR
      iexists _; iexact HD
    isplitl [HXr HXl]
    · isplitl [HXr]; · iexact HXr
      rw [if_neg (show ¬ k.val + 1 < 15 by omega)]; iexact HXl
    isplitl [HSt]; · iexact HSt
    iexact HQ

theorem part5_spec (v7 w1 w2 : BitVec 32) (k : Fin k0_t1_loop.trips) (v253 v269 v285 v301 v317 v333 v349 : FVec F S512x128 .bf16) (v353 : FVec F S512x2048 .f32) (cst : F .f32) {Q : _ → sProp 𝕄} :
    iprop(records P K ∗ levAts L lv ∗ owesE c (owed c (k.val + 2) (k.val + 1)) ∗ WA c k.val ∗ ptO c s ∗ ptV c s
        ∗ ((owesE c (owed c (k.val + 2) (k.val + 1)) ∗ atPos ER (asC c k.val) 0 ∅ 0 ∗ atPos ER (arC c (k.val + 1)) 1 ∅ 0
            ∗ ownsTc c (aS (k.val + 1)) fullShare (k0_pay16 v253 v269 v285 v301 v317 v333 v349 v353 cst (ldV 896 inb_S2048x1024_S2048x128_0_896 s.vv) (ldO s.wo) (P.acc k.val (prv c)))
            ∗ aAny (back (k.val + 1) c) 0 ∗ ptO c s ∗ ptV c s) -∗ Q 1#32))
      ⊢ wpc c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 v7 k w1 w2 v253 v269 v285 v301 v317 v333 v349 v353 cst) Q := by
  have hk := trip_lt k
  rw [k0_part5_eq_skeleton]; unfold k0_part5_skel
  simp only [Prog.lift, Prog.bind_op, Prog.bind_ret, Prog.pure_eq_ret]
  unfold WA
  iintro ⟨#HR, #Hlev, HO, ⟨HatS, HatR, HcR⟩, HW, HV, Hk⟩
  iapply (load_v c s) $$ HV; iintro HV
  iapply (load_o c s) $$ HW; iintro HW
  iapply (wait_a P K 3 c (k.val + 1) (k.val + 2) (k.val + 1) (dma_of ix_ar (k0_off3_eq k) rfl _) (duties_ar P c _) (amount_ar P c _ _)
    (k.val + 2) (by rw [lv_ar c (by omega)]) (by omega) (by omega)) $$ [HcR HO HatR]
  · isplitr; · iexact HR
    isplitr; · iexact Hlev
    isplitl [HcR]; · iexact HcR
    isplitl [HO]; · iexact HO
    iexact HatR
  rw [payload_ar P c (by omega)]; unfold arPay
  rw [if_neg (by omega), Nat.add_sub_cancel]
  iintro ⟨HO, HatR, HA, HF⟩
  iapply (load_slot (Memref.whole cc0_scratch1) c (n := k.val + 1) (slo_of (k0_off11_eq k) (by omega))) $$ HA; iintro HA
  iapply (load_slot (Memref.whole cc0_scratch1) c (n := k.val + 1) (slo_of (k0_off11_eq k) (by omega))) $$ HA; iintro HA
  iapply (store_slot (Memref.whole cc0_scratch1) c (n := k.val + 1) (slo_of (k0_off11_eq k) (by omega))) $$ HA; iintro HA
  iapply (wpc_ret c)
  iapply Hk
  isplitl [HO]; · iexact HO
  isplitl [HatS]; · iexact HatS
  isplitl [HatR]; · iexact HatR
  isplitl [HA]; · iexact HA
  isplitl [HF]; · iexact HF
  isplitl [HW]; · iexact HW
  iexact HV

/-! ## The trip -/

theorem wpc_bind {α β : Type} {Q : β → sProp 𝕄} {p : Prog (TpuEff nD τ sig (Elt F) Λ₀ .tc) α} {k : α → Prog (TpuEff nD τ sig (Elt F) Λ₀ .tc) β} :
    wpc c p (fun a => wpc c (k a) Q) ⊢ wpc c (p >>= k) Q := by
  unfold wpc
  rw [wp_bind]

omit [FloatOps F] in
/-- The slot a sum hop needs: the right neighbour's, which at the last hop has come with the chunk. -/
theorem aDst_intro (h : ℕ) :
    iprop((if h = 15 then iprop(emp) else aAny (nxt c) (h + 1)) ∗ aAny (back h c) 0) ⊢ (aDst c h : sProp 𝕄) := by
  unfold aDst
  by_cases hl : h = 15
  · subst hl
    rw [if_pos rfl, if_pos rfl, back_fifteen]
    iintro ⟨-, H⟩
    iexact H
  · rw [if_neg hl, if_neg hl]

/-- What device `c` holds before trip `k` besides the invariants: the staged operands, the hops still to do, those done. -/
def Inv (k : ℕ) : sProp 𝕄 :=
  iprop(owesE c (owed c (k + 1) (k + 1)) ∗ (ptQ c s ∗ ptO c s ∗ ptK c s ∗ ptV c s)
    ∗ (bigSep (Finset.Ico k 15) (WX c) ∗ bigSep (Finset.Ico (k + 1) 15) (StX c) ∗ bigSep (Finset.range k) (DX c) ∗ FX c P k)
    ∗ (bigSep (Finset.Ico k 16) (WA c) ∗ bigSep (Finset.Ico (k + 1) 16) (StA c) ∗ bigSep (Finset.range k) (DA c)) ∗ cred (tallyAt (asC c k) () NA))

theorem trip (S : Dev nD → Stg F) (v7 : BitVec 32) (k : Fin k0_t1_loop.trips) :
    iprop((records (valsOf S) K ∗ levAts L lv) ∗ Inv c (S c) (valsOf S) k.val)
      ⊢ wpc c (k0_t1_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c v7 k ()) (fun _ => iprop((records (valsOf S) K ∗ levAts L lv) ∗ Inv c (S c) (valsOf S) (k.val + 1))) := by
  have hk := trip_lt k
  unfold k0_t1_body Inv
  rw [bigSep_Ico_succ_bot (show k.val < 15 by omega) (WX c), bigSep_Ico_succ_bot (show k.val < 16 by omega) (WA c), bigSep_Ico_succ_bot (show k.val + 1 < 16 by omega) (StA c),
    bigSep_range_succ k.val (DX c), bigSep_range_succ k.val (DA c)]
  iintro ⟨⟨#HR, #Hlev⟩, HO, ⟨HQ, HW, HK, HV⟩, ⟨⟨HWX1, HWX⟩, HStX, HDX, HFX⟩, ⟨⟨HWA1, HWA⟩, ⟨HStA1, HStA⟩, HDA⟩, HcA⟩
  iapply (wpc_bind c)
  iapply (part1_spec c (S c) (valsOf S) K v7 1#32 1#32 k)
  isplitr; · iexact HR
  isplitr; · iexact Hlev
  isplitl [HO]; · iexact HO
  isplitl [HWX1]; · iexact HWX1
  isplitl [HFX]; · iexact HFX
  isplitl [HStX]; · iexact HStX
  isplitl [HQ]; · iexact HQ
  iintro %w1 %w2 ⟨HO, HDX1, HFX, HStX, HQ⟩
  dsimp only
  iapply (wpc_bind c)
  iapply (part2_spec c (S c))
  isplitl [HK]; · iexact HK
  isplitl [HV]; · iexact HV
  iintro ⟨HK, HV⟩
  dsimp only
  iapply (wpc_bind c)
  iapply (part3_spec c (S c))
  isplitl [HK]; · iexact HK
  isplitl [HV]; · iexact HV
  iintro ⟨HK, HV⟩
  dsimp only
  iapply (wpc_bind c)
  iapply (part4_spec c (S c))
  isplitl [HK]; · iexact HK
  isplitl [HV]; · iexact HV
  iintro ⟨HK, HV⟩
  dsimp only
  iapply (wpc_bind c)
  iapply (part5_spec c (S c) (valsOf S) K)
  isplitr; · iexact HR
  isplitr; · iexact Hlev
  isplitl [HO]; · iexact HO
  isplitl [HWA1]; · iexact HWA1
  isplitl [HW]; · iexact HW
  isplitl [HV]; · iexact HV
  iintro ⟨HO, HatS, HatR, HA, HF, HW, HV⟩
  dsimp only [Prog.lift, Prog.bind_op, Prog.bind_ret, Prog.pure_eq_ret]
  -- the sum sent before is free
  iapply (wait_a (valsOf S) K 2 c k.val (k.val + 2) (k.val + 1) (dma_of ix_as (k0_off6_eq k) rfl _) (duties_as (valsOf S) c _) (amount_as (valsOf S) c _ _)
    0 (by rw [lv_as]) (by omega) (by omega)) $$ [HcA HO HatS]
  · isplitr; · iexact HR
    isplitr; · iexact Hlev
    isplitl [HcA]; · iexact HcA
    isplitl [HO]; · iexact HO
    iexact HatS
  rw [payload_as (valsOf S) c (by omega)]
  iintro ⟨HO, HatS, HD⟩
  ihave HStA2 := (Entails.of_eq (StA.eq_1 c (k.val + 1))) $$ HStA1
  icases HStA2 with ⟨Ht1, Ht2, Hd⟩
  -- the sum goes on
  iapply (send_a (valsOf S) K c _ (dev6_eq c) (k.val + 1) (k.val + 2) (by omega) (by omega) (slo_of (k0_off15_eq k) (by omega)) (slo_of (k0_off14_eq k) rfl)
    (dma_of ix_as (k0_off12_eq k) rfl _) (dma_of ix_ar (k0_off13_eq k) (Nat.mod_mod _ _) _)) $$ [HA HF Hd HO Ht1 Ht2]
  · isplitr; · iexact HR
    isplitl [HA]; · iexact HA
    isplitl [HF Hd]
    · iapply (aDst_intro c (k.val + 1))
      isplitl [Hd]; · iexact Hd
      iexact HF
    isplitl [HO]; · iexact HO
    isplitl [Ht1]; · iexact Ht1
    iexact Ht2
  iintro ⟨HcA, HO⟩
  iapply (wpc_ret c)
  isplitr
  · isplitr; · iexact HR
    iexact Hlev
  isplitl [HO]; · iexact HO
  isplitl [HQ HW HK HV]
  · isplitl [HQ]; · iexact HQ
    isplitl [HW]; · iexact HW
    isplitl [HK]; · iexact HK
    iexact HV
  isplitl [HWX HStX HDX HDX1 HFX]
  · isplitl [HWX]; · iexact HWX
    isplitl [HStX]; · iexact HStX
    isplitl [HDX HDX1]
    · isplitl [HDX1]; · iexact HDX1
      iexact HDX
    iexact HFX
  isplitl [HWA HStA HDA HatS HatR HD]
  · isplitl [HWA]; · iexact HWA
    isplitl [HStA]; · iexact HStA
    isplitl [HatS HatR HD]
    · iapply (Entails.of_eq (DA.eq_1 c k.val).symm)
      isplitl [HatS]; · iexact HatS
      isplitl [HatR]; · iexact HatR
      iexact HD
    iexact HDA
  iexact HcA

end Cert.RingProof

end
-- ==== Proof.Slots.lean ====
/-
  A sixteen-slot buffer, held whole, is its sixteen slots, and back.
-/
module

public import proofs.«01_k».proof.Proof.Trip
public import Idealize.ShloMosaic.Lib.MemrefSat
public import Idealize.ShloMosaic.Lib.PageRing.Basic
public import Idealize.ShloMosaic.Lib.Ring
public import Idealize.SL.BI.BigOpNat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer is its sixteen slots -/

theorem slr_disjoint (t t' : Fin 16) (h : t ≠ t') : Disjoint (slr t.val).set (slr t'.val).set := by
  rw [Finset.disjoint_left]
  intro i hi hi'
  have h1 := Rect.mem_set_unit.mp hi 0
  have h2 := Rect.mem_set_unit.mp hi' 0
  have e (n : Fin 16) : slo n.val 0 = n.val := Nat.mod_eq_of_lt n.isLt
  rw [e t] at h1; rw [e t'] at h2
  have e1 : S1x512x1024.size 0 = 1 := rfl
  rw [e1] at h1 h2
  exact h (Fin.ext (by omega))

theorem slr_cover : (Finset.univ : Finset (Fin 16)).biUnion (fun t => (slr t.val).set) = Finset.univ := by
  ext i
  refine ⟨fun _ => Finset.mem_univ _, fun _ => ?_⟩
  have h0 : (i 0).val < 16 := (i 0).isLt
  refine Finset.mem_biUnion.mpr ⟨⟨(i 0).val, h0⟩, Finset.mem_univ _, Rect.mem_set_unit.mpr fun a => ?_⟩
  have e : slo (i 0).val 0 = (i 0).val := Nat.mod_eq_of_lt h0
  have e1 : S1x512x1024.size 0 = 1 := rfl
  fin_cases a
  · show slo (i 0).val 0 ≤ (i 0).val ∧ (i 0).val < slo (i 0).val 0 + S1x512x1024.size 0
    rw [e, e1]; omega
  · exact ⟨Nat.zero_le _, (show (i 1).val < 512 from (i 1).isLt).trans_eq (Nat.zero_add _).symm⟩
  · exact ⟨Nat.zero_le _, (show (i 2).val < 1024 from (i 2).isLt).trans_eq (Nat.zero_add _).symm⟩

section Whole
variable {e : EltTy} (c : Dev nD)

omit [FloatOps F] in
theorem slots_split (b : Memref sig .tc .vmem S16x512x1024 e) (X : S16x512x1024.Idx → Elt F e) :
    (ownsTc c b fullShare X : sProp 𝕄) ⊢ bigSep (Finset.range 16) fun n => iprop(∃ Y, ownsTc c (b.slice (slr n) (fun _ => rfl)) fullShare Y) := by
  refine (owns_rects (c : Thread nD τ) b fullShare (fun t : Fin 16 => slr t.val) (fun _ _ => rfl) slr_disjoint slr_cover X).trans ?_
  rw [← Ring.bigSep_fin_eq_range 16 (fun t : Fin 16 => iprop(∃ Y, ownsTc c (b.slice (slr t.val) (fun _ => rfl)) fullShare Y : sProp 𝕄)) _ (fun _ _ => rfl)]
  refine bigSep_mono fun t _ => (show (ownsTc c (b.slice (slr t.val) (fun _ => rfl)) fullShare (fun j => X ((slr t.val).emb j)) : sProp 𝕄) ⊢ iprop(∃ Y, ownsTc c (b.slice (slr t.val) (fun _ => rfl)) fullShare Y) from ?_)
  iintro H
  iexists (fun j => X ((slr t.val).emb j))
  iexact H

theorem slots_join (b : Memref sig .tc .vmem S16x512x1024 e) :
    (bigSep (Finset.range 16) fun n => iprop(∃ Y, ownsTc c (b.slice (slr n) (fun _ => rfl)) fullShare Y)) ⊢ (iprop(∃ X, ownsTc c b fullShare X) : sProp 𝕄) := by
  rw [← Ring.bigSep_fin_eq_range 16 (fun t : Fin 16 => iprop(∃ Y, ownsTc c (b.slice (slr t.val) (fun _ => rfl)) fullShare Y : sProp 𝕄)) _ (fun _ _ => rfl)]
  refine (bigSep_mono fun t _ => (show _ ⊢ ownsSat (c : Thread nD τ) (b.slice (slr t.val) (fun _ => rfl)) fullShare (fun _ => True) from by
    iintro ⟨%Y, H⟩
    iapply (ownsSat_intro (c : Thread nD τ) (b.slice (slr t.val) (fun _ => rfl)) fullShare (X := Y) trivial)
    iexact H)).trans ?_
  refine (ownsSat_of_rects (c : Thread nD τ) b fullShare (fun t : Fin 16 => slr t.val) (fun _ _ => rfl) slr_disjoint slr_cover (fun _ _ => True)).trans ?_
  refine (ownsSat_elim (c : Thread nD τ) b fullShare _).trans ?_
  iintro ⟨%X, -, H⟩
  iexists X; iexact H

omit [FloatOps F] in
theorem whole_eq (b : Ref sig .tc) (X : b.ty.Contents (Elt F)) :
    (ownsTc c (Memref.whole b) fullShare X : sProp 𝕄) = iprop(∃ f : Buf (Elt F) ((c : Thread nD τ).loc b), ⌜f = X⌝ ∗ (((c : Thread nD τ).loc b) ↦{fullShare} f)) := by
  unfold ownsTc owns; simp only [Memref.view_whole, View.read_whole, View.set_whole]

omit [FloatOps F] in
theorem x_split : (iprop(∃ f : Buf (Elt F) ((c : Thread nD τ).loc cc0_scratch0), ((c : Thread nD τ).loc cc0_scratch0) ↦{fullShare} f) : sProp 𝕄)
    ⊢ bigSep (Finset.range 16) (xAny c) := by
  iintro ⟨%f, H⟩
  iapply (slots_split c (Memref.whole cc0_scratch0 : Memref sig .tc .vmem S16x512x1024 .bf16) f)
  iapply (Entails.of_eq (whole_eq c cc0_scratch0 f).symm)
  iexists f; isplitr
  · ipureintro; rfl
  iexact H
omit [FloatOps F] in
theorem a_split : (iprop(∃ f : Buf (Elt F) ((c : Thread nD τ).loc cc0_scratch1), ((c : Thread nD τ).loc cc0_scratch1) ↦{fullShare} f) : sProp 𝕄)
    ⊢ bigSep (Finset.range 16) (aAny c) := by
  iintro ⟨%f, H⟩
  iapply (slots_split c (Memref.whole cc0_scratch1 : Memref sig .tc .vmem S16x512x1024 .f32) f)
  iapply (Entails.of_eq (whole_eq c cc0_scratch1 f).symm)
  iexists f; isplitr
  · ipureintro; rfl
  iexact H

theorem x_join : bigSep (Finset.range 16) (xAny c)
    ⊢ (iprop(∃ f : Buf (Elt F) ((c : Thread nD τ).loc cc0_scratch0), ((c : Thread nD τ).loc cc0_scratch0) ↦{fullShare} f) : sProp 𝕄) := by
  refine (slots_join c (Memref.whole cc0_scratch0 : Memref sig .tc .vmem S16x512x1024 .bf16)).trans ?_
  iintro ⟨%X, H⟩
  ihave H' := (Entails.of_eq (whole_eq c cc0_scratch0 X)) $$ H
  icases H' with ⟨%f, -, H⟩
  iexists f; iexact H
theorem a_join : bigSep (Finset.range 16) (aAny c)
    ⊢ (iprop(∃ f : Buf (Elt F) ((c : Thread nD τ).loc cc0_scratch1), ((c : Thread nD τ).loc cc0_scratch1) ↦{fullShare} f) : sProp 𝕄) := by
  refine (slots_join c (Memref.whole cc0_scratch1 : Memref sig .tc .vmem S16x512x1024 .f32)).trans ?_
  iintro ⟨%X, H⟩
  ihave H' := (Entails.of_eq (whole_eq c cc0_scratch1 X)) $$ H
  icases H' with ⟨%f, -, H⟩
  iexists f; iexact H

end Whole

end Cert.RingProof

end
-- ==== Proof.Parts.lean ====
/-
  The parts of the kernel's body around its loop.
-/
module

public import proofs.«01_k».proof.Proof.Trip
public import proofs.«01_k».proof.Proof.Slots
public import Idealize.ShloMosaic.Lib.MemrefSat
public import Idealize.ShloMosaic.Lib.PageRing.Basic
public import Idealize.ShloMosaic.Lib.Ring
public import Idealize.SL.BI.BigOpNat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The straight parts of the body -/

omit [FloatOps F] in
theorem range_shift (A : ℕ → sProp 𝕄) (n : ℕ) :
    bigSep (Finset.range (n + 1)) A = iprop(A 0 ∗ bigSep (Finset.range n) fun h => A (h + 1)) := by
  induction n with
  | zero => rw [bigSep_range_succ 0 A, Finset.range_zero, bigSep_empty, bigSep_empty]
  | succ n ih =>
    rw [bigSep_range_succ (n + 1) A, ih, bigSep_range_succ n (fun h => A (h + 1))]
    exact BI.Entails.antisymm (sep_left_comm (PROP := sProp 𝕄)).1 (sep_left_comm (PROP := sProp 𝕄)).2

variable (c : Dev nD) (s : Stg F) (K : Dev nD × J → ℕ) (S : Dev nD → Stg F)

theorem off2_zero : k0_off2 0#32 = slo 0 := rfl
theorem off2_one : k0_off2 1#32 = slo 1 := rfl
theorem sem_of {A : DmaSems sig S16} {a : Fin 4} (hA : ∀ i : S16.Idx, A.ix i = dmaD a (i 0).val) {w : BitVec 32} {n n' : ℕ} (ho : k0_off1 w = ![n]) (hn : n % 16 = n' % 16)
    (h : ∀ a, k0_off1 w a + S1.size a ≤ S16.size a) :
    ((A.slice (Rect.unit (s := S16) (k0_off1 w) S1.size h)).squeeze S_ squeezes_S1_S_).sem = dmaD a n' := dma_of hA ho hn h

theorem part6_spec {Q : _ → sProp 𝕄} :
    iprop(records (valsOf S) K ∗ levAts L lv ∗ owesE c (O₀ c) ∗ (dutyTok ER (barC (prv c)) 0 true ∗ dutyTok ER (barC (nxt c)) 0 false)
        ∗ cred (tallyAt (barC c) () 2) ∗ atPos ER (barC c) 0 ∅ 0 ∗ ptX c (S c) ∗ xAny c 0
        ∗ (bigSep (Finset.range 15) fun h => xAny c (h + 1)) ∗ (bigSep (Finset.range 15) fun h => aAny c (h + 1))
        ∗ (∀ w, (owesE c (owed c 0 0) ∗ atPos ER (barC c) 1 ∅ 0 ∗ barPay c ∗ ptX c (S c) ∗ ownsTc c (xS 0) fullShare (chunk (S c)))
          -∗ Q ⟨c, w⟩))
      ⊢ wpc c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) Q := by
  rw [k0_part6_eq_skeleton]; unfold k0_part6_skel wpc
  simp only [semSignalWord, semWaitWord, Prog.lift, Prog.bind_op, Prog.bind_ret, Prog.pure_eq_ret, wp_deviceId]
  unfold owesE xAny
  iintro ⟨#HR, #Hlev, ⟨%W, HO⟩, ⟨Ht1, Ht2⟩, Hc, Hat, HX, ⟨%X0, H0⟩, Hxs, Has, Hk⟩
  simp only [dev1_eq c, dev2_eq c]
  ihave HRp := (rec_bar (valsOf S) K (prv c)) $$ HR
  icases HRp with ⟨#HIp, #Hrp⟩
  ihave HRn := (rec_bar (valsOf S) K (nxt c)) $$ HR
  icases HRn with ⟨#HIn, #Hrn⟩
  ihave HRc := (rec_bar (valsOf S) K c) $$ HR
  icases HRc with ⟨#HIc, #Hrc⟩
  -- the left neighbour is handed this device's slots
  iapply (Rounds.wp_signal 𝒱₀ ER (rd (valsOf S)) (c : Thread nD τ) none (dst := (prv c : Thread nD τ)) (κ := kb K (prv c))
      (d := true) (by rw [duties_bar]; exact Finset.mem_univ _) ((amount_bar (valsOf S) (prv c) true).trans (by decide)) () (O₁ c) rfl) $$ [HO Ht1 Hxs Has]
  · isplitr; · iexact HIp
    isplitl [HO]; · iexact HO
    isplitl [Ht1]; · iexact Ht1
    isplitl [Hxs Has]
    · rw [payload_bar_true]; unfold barPay xAny; rw [nxt_prv]
      isplitl [Hxs]; · iexact Hxs
      iexact Has
    iexact Hrp
  iintro HO
  iapply (Rounds.wp_signal 𝒱₀ ER (rd (valsOf S)) (c : Thread nD τ) none (dst := (nxt c : Thread nD τ)) (κ := kb K (nxt c))
      (d := false) (by rw [duties_bar]; exact Finset.mem_univ _) ((amount_bar (valsOf S) (nxt c) false).trans (by decide)) () (owed c 0 0) rfl) $$ [HO Ht2]
  · isplitr; · iexact HIn
    isplitl [HO]; · iexact HO
    isplitl [Ht2]; · iexact Ht2
    isplitr; · rw [payload_bar_false]; iempintro
    iexact Hrn
  iintro HO
  -- both neighbours have come
  iapply (Rounds.wp_wait_rest_token 𝒱₀ ER (rd (valsOf S)) (c : Thread nD τ) none (κ := kb K c)
      (wpE_semWait_eq 𝒱₀ (c : Thread nD τ) none Set.univ) (Set.mem_univ _) () (O := owed c 0 0) (W := W) (R := 0) (m := 0) (T := ∅)
      (by rw [expect_bar]; decide)) $$ [Hc HO Hat]
  · isplitr; · iexact HIc
    isplitl [Hc]; · iexact Hc
    isplitl [HO]; · iexact HO
    isplitr; · iapply (mayWait c (.reg barS) 1 0 0 (le_of_eq rfl) (by decide) (by decide)); iexact Hlev
    iexact Hat
  iintro ⟨HO, Hat, -, Hpay⟩
  ihave Hp := (Entails.of_eq (rest_bar (valsOf S) c)) $$ Hpay
  icases Hp with ⟨-, Hp⟩
  iapply (load_x c (S c)) $$ HX; iintro HX
  iapply (load_slot (Memref.whole cc0_scratch0) c (n := 0) rfl) $$ H0; iintro H0
  iapply (store_slot (Memref.whole cc0_scratch0) c (n := 0) rfl) $$ H0; iintro H0
  iapply (wpc_ret c)
  iapply Hk
  isplitl [HO]; · iexists _; iexact HO
  isplitl [Hat]; · iexact Hat
  isplitl [Hp]; · iexact Hp
  isplitl [HX]; · iexact HX
  iexact H0

theorem part7_spec {Q : _ → sProp 𝕄} :
    iprop(records (valsOf S) K ∗ owesE c (owed c 0 0) ∗ ownsTc c (xS 0) fullShare (chunk (S c)) ∗ xAny (nxt c) 1
        ∗ (dutyTok ER (xsC c 0) 0 false ∗ dutyTok ER (xrC (nxt c) 1) 0 false) ∗ ptQ c (S c) ∗ ptK c (S c) ∗ ptV c (S c)
        ∗ ((owesE c (owed c 1 0) ∗ FX c (valsOf S) 0 ∗ ptQ c (S c) ∗ ptK c (S c) ∗ ptV c (S c))
          -∗ Q ⟨k0_pay18 (chunk (S c)) (ldQ (S c).wq), k0_pay19 (chunk (S c)) (ldQ (S c).wq) (ldK 0 inb_S2048x1024_S2048x128_0_0 (S c).kk) (ldV 0 inb_S2048x1024_S2048x128_0_0 (S c).vv),
            k0_pay21 (chunk (S c)) (ldQ (S c).wq) (ldK 128 inb_S2048x1024_S2048x128_0_128 (S c).kk), k0_pay22 (chunk (S c)) (ldQ (S c).wq) (ldK 128 inb_S2048x1024_S2048x128_0_128 (S c).kk),
            ldV 128 inb_S2048x1024_S2048x128_0_128 (S c).vv⟩))
      ⊢ wpc c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c) Q := by
  rw [k0_part7_eq_skeleton]; unfold k0_part7_skel
  simp only [Prog.lift, Prog.bind_op, Prog.bind_ret, Prog.pure_eq_ret]
  unfold FX
  rw [if_pos (show 0 < 15 by decide), back_zero]
  iintro ⟨#HR, HO, HX, Hd, ⟨Ht1, Ht2⟩, HQ, HK, HV, Hk⟩
  ihave HX2 := (owns_halves (c : Thread nD τ) (xS 0) fullShare (chunk (S c))).1 $$ HX
  icases HX2 with ⟨HXl, HXr⟩
  iapply (send_x (valsOf S) K c _ (dev3_eq c) 0 0 (by decide) off2_zero off2_one
    (sem_of ix_xs (n := 0) rfl rfl _) (sem_of ix_xr (n := 1) rfl rfl _)) $$ [HXl Hd HO Ht1 Ht2]
  · isplitr; · iexact HR
    isplitl [HXl]; · rw [back_zero]; iexact HXl
    isplitl [Hd]; · iexact Hd
    isplitl [HO]; · iexact HO
    isplitl [Ht1]; · iexact Ht1
    iexact Ht2
  iintro ⟨HcS, HO⟩
  iapply (load_slot (Memref.whole cc0_scratch0) c (n := 0) rfl) $$ HXr; iintro HXr
  iapply (load_q c (S c)) $$ HQ; iintro HQ
  iapply (load_k c (S c)) $$ HK; iintro HK
  iapply (load_v c (S c)) $$ HV; iintro HV
  iapply (load_k c (S c)) $$ HK; iintro HK
  iapply (load_v c (S c)) $$ HV; iintro HV
  iapply (wpc_ret c)
  iapply Hk
  isplitl [HO]; · iexact HO
  isplitl [HXr HcS]
  · isplitl [HXr]; · iexact HXr
    iexact HcS
  isplitl [HQ]; · iexact HQ
  isplitl [HK]; · iexact HK
  iexact HV

theorem part10_spec (v7 : BitVec 32) (v35 : FVec F S512x1024 .bf16) (v51 v67 v83 v99 v115 v131 : FVec F S512x128 .bf16) (v140 : FVec F S512x1 .f32) (v141 : FVec F S512x2048 .bf16)
    (v142 : Vec F S2048x128 .bf16) {Q : _ → sProp 𝕄} :
    iprop(aAny c 0 ∗ ptO c s ∗ ptK c s ∗ ptV c s
        ∗ ((ownsTc c (aS 0) fullShare (k0_pay33 v35 v51 v67 v83 v99 v115 v131 v140 v141 v142 (ldK 896 inb_S2048x1024_S2048x128_0_896 s.kk) (ldV 896 inb_S2048x1024_S2048x128_0_896 s.vv) (ldO s.wo))
          ∗ ptO c s ∗ ptK c s ∗ ptV c s) -∗ Q ⟨⟩))
      ⊢ wpc c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 v7 v35 v51 v67 v83 v99 v115 v131 v140 v141 v142) Q := by
  rw [k0_part10_eq_skeleton]; unfold k0_part10_skel
  simp only [Prog.lift, Prog.bind_op, Prog.bind_ret, Prog.pure_eq_ret]
  unfold aAny
  iintro ⟨⟨%X0, H0⟩, HW, HK, HV, Hk⟩
  iapply (load_k c s) $$ HK; iintro HK
  iapply (load_v c s) $$ HV; iintro HV
  iapply (load_o c s) $$ HW; iintro HW
  iapply (load_slot (Memref.whole cc0_scratch1) c (n := 0) rfl) $$ H0; iintro H0
  iapply (store_slot (Memref.whole cc0_scratch1) c (n := 0) rfl) $$ H0; iintro H0
  iapply (wpc_ret c)
  iapply Hk
  isplitl [H0]; · iexact H0
  isplitl [HW]; · iexact HW
  isplitl [HK]; · iexact HK
  iexact HV

/-- What the result's staging buffer holds. -/
abbrev ptY (c : Dev nD) (f : (cc0_stg5_0 : Ref sig .tc).ty.Contents (Elt F)) : sProp 𝕄 := ((c : Thread nD τ).loc cc0_stg5_0) ↦{fullShare} f

theorem load_y (f : (cc0_stg5_0 : Ref sig .tc).ty.Contents (Elt F)) {α : Type} {Q : α → sProp 𝕄} {hl} {k : Vec F S512x1024 .f32 → Prog (TpuEff nD τ sig (Elt F) Λ₀ .tc) α} :
    ptY c f ⊢ iprop((ptY c f -∗ wpc c (k (((Memref.whole cc0_stg5_0 : Memref sig .tc .vmem S512x1024 .f32).access (Rect.unit (s := S512x1024) ![0, 0] S512x1024.size inb_S512x1024_S512x1024_0_0)).read (Elt F) f)) Q)
      -∗ wpc c (.op (.load (Memref.whole cc0_stg5_0 : Memref sig .tc .vmem S512x1024 .f32) (Rect.unit (s := S512x1024) ![0, 0] S512x1024.size inb_S512x1024_S512x1024_0_0).toLoadRect hl) k) Q) :=
  wp_load_rect 𝒱₀ (c : Thread nD τ) none Set.univ (m := (Memref.whole cc0_stg5_0 : Memref sig .tc .vmem S512x1024 .f32)) (r := Rect.unit (s := S512x1024) ![0, 0] S512x1024.size inb_S512x1024_S512x1024_0_0)
    (S := Finset.univ) (f := f) (k := k) (Q := Q) (Finset.subset_univ _)

/-- The loop, all its trips. -/
theorem loop_spec (v7 : BitVec 32) {Q : _ → sProp 𝕄} :
    iprop((records (valsOf S) K ∗ levAts L lv) ∗ Inv c (S c) (valsOf S) 0 ∗ (Inv c (S c) (valsOf S) 15 -∗ Q ⟨⟩))
      ⊢ wpc c (Scf.Loop.for k0_t1_loop k0_t1_ok ⟨⟩ (k0_t1_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c v7)) Q := by
  iintro ⟨#HRL, HI, Hk⟩
  iapply (Scf.wp_for frame (wpE (defs₀ (F := F)) 𝒱₀ (c : Thread nD τ) none) Set.univ _ _ _ k0_t1_ok ⟨⟩ (k0_t1_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c v7)
    (fun k _ => iprop((records (valsOf S) K ∗ levAts L lv) ∗ Inv c (S c) (valsOf S) k)) (fun k acc => trip c K S v7 k))
  isplitl [HI]
  · isplitr; · iexact HRL
    iexact HI
  iintro %acc ⟨-, HI⟩
  iapply Hk
  rw [show Scf.trips k0_t1_loop.lb k0_t1_loop.ub k0_t1_loop.st = 15 from trips_eq]
  iexact HI

theorem part11_spec (v7 : BitVec 32) (fy : (cc0_stg5_0 : Ref sig .tc).ty.Contents (Elt F)) {Q : _ → sProp 𝕄} :
    iprop(records (valsOf S) K ∗ levAts L lv ∗ owesE c (owed c 1 0) ∗ ownsTc c (aS 0) fullShare (accOf S 0 c)
        ∗ (dutyTok ER (asC c 0) 0 false ∗ dutyTok ER (arC (nxt c) 1) 0 false ∗ aAny (nxt c) 1)
        ∗ (ptQ c (S c) ∗ ptO c (S c) ∗ ptK c (S c) ∗ ptV c (S c))
        ∗ (bigSep (Finset.range 15) (WX c) ∗ bigSep (Finset.Ico 1 15) (StX c) ∗ FX c (valsOf S) 0)
        ∗ (bigSep (Finset.range 16) (WA c) ∗ bigSep (Finset.Ico 1 16) (StA c)) ∗ ptY c fy
        ∗ ((owesE c 0 ∗ (ptQ c (S c) ∗ ptO c (S c) ∗ ptK c (S c) ∗ ptV c (S c)) ∗ (bigSep (Finset.range 15) (DX c) ∗ FX c (valsOf S) 15)
            ∗ (bigSep (Finset.range 16) (DA c) ∗ aAny c 0) ∗ ptY c fy) -∗ Q (k0_pay34 (accOf S 15 (prv c)))))
      ⊢ wpc c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c v7) Q := by
  rw [k0_part11_eq_skeleton]; unfold k0_part11_skel
  simp only [Prog.lift, Prog.bind_op, Prog.bind_ret, Prog.pure_eq_ret]
  rw [Finset.range_eq_Ico, Finset.range_eq_Ico]
  iintro ⟨#HR, #Hlev, HO, HA, ⟨Ht1, Ht2, Hd⟩, Hpts, ⟨HWX, HStX, HFX⟩, ⟨HWA, HStA⟩, HY, Hk⟩
  iapply (send_a0 (valsOf S) K c _ (dev4_eq c) 1 off2_zero off2_one
    (sem_of ix_as (n := 0) rfl rfl _) (sem_of ix_ar (n := 1) rfl rfl _)) $$ [HA Hd HO Ht1 Ht2]
  · isplitr; · iexact HR
    isplitl [HA]; · iexact HA
    isplitl [Hd]; · iexact Hd
    isplitl [HO]; · iexact HO
    isplitl [Ht1]; · iexact Ht1
    iexact Ht2
  iintro ⟨HcA, HO⟩
  iapply (wpc_bind c)
  iapply (loop_spec c K S v7)
  isplitr
  · isplitr; · iexact HR
    iexact Hlev
  isplitl [HO Hpts HWX HStX HFX HWA HStA HcA]
  · unfold Inv
    isplitl [HO]; · iexact HO
    isplitl [Hpts]; · iexact Hpts
    isplitl [HWX HStX HFX]
    · isplitl [HWX]; · iexact HWX
      isplitl [HStX]; · iexact HStX
      isplitr
      · rw [Finset.range_zero, bigSep_empty]; iempintro
      iexact HFX
    isplitl [HWA HStA]
    · isplitl [HWA]; · iexact HWA
      isplitl [HStA]; · iexact HStA
      rw [Finset.range_zero, bigSep_empty]; iempintro
    iexact HcA
  unfold Inv
  rw [owed_done c (show 15 ≤ 15 + 1 by decide) (show 16 ≤ 15 + 1 by decide), bigSep_Ico_succ_bot (show 15 < 16 by decide) (WA c)]
  iintro ⟨HO, Hpts, ⟨-, -, HDX, HFX⟩, ⟨⟨HWA, -⟩, -, HDA⟩, HcA⟩
  ihave HWA' := (Entails.of_eq (WA.eq_1 c 15)) $$ HWA
  icases HWA' with ⟨HatS, HatR, HcR⟩
  ihave HO := (Entails.of_eq (congrArg (owesE c) (owed_done c (n := 17) (k := 16) (by decide) (by decide)).symm)) $$ HO
  iapply (wait_a (valsOf S) K 3 c (15 + 1) 17 16 (sem_of ix_ar (n := 0) rfl rfl _) (duties_ar (valsOf S) c _) (amount_ar (valsOf S) c _ _)
    17 (by rw [lv_ar c (by decide)]) (by decide) (by decide)) $$ [HcR HO HatR]
  · isplitr; · iexact HR
    isplitr; · iexact Hlev
    isplitl [HcR]; · iexact HcR
    isplitl [HO]; · iexact HO
    iexact HatR
  iintro ⟨HO, HatR, HA⟩
  ihave HA' := (Entails.of_eq (show (rd (valsOf S)).payload (dmaC 3 c (15 + 1)) 0 false = (ownsTc c (aS 0) fullShare (accOf S 15 (prv c)) : sProp 𝕄) from (congrArg (fun g => (rd (valsOf S)).payload g 0 false) (dmaC_mod (a := 3) (c := c) (n := 15 + 1) (n' := 0) rfl)).trans
    ((payload_ar (valsOf S) c (show 0 < 16 by decide) false).trans (if_pos rfl)))) $$ HA
  iapply (wait_a (valsOf S) K 2 c 15 17 16 (sem_of ix_as (n := 15) rfl rfl _) (duties_as (valsOf S) c _) (amount_as (valsOf S) c _ _)
    0 (by rw [lv_as]) (by decide) (by decide)) $$ [HcA HO HatS]
  · isplitr; · iexact HR
    isplitr; · iexact Hlev
    isplitl [HcA]; · iexact HcA
    isplitl [HO]; · iexact HO
    iexact HatS
  iintro ⟨HO, HatS, HD'⟩
  ihave HD := (Entails.of_eq (payload_as (valsOf S) c (show 15 < 16 by decide) false)) $$ HD'
  ihave HO := (Entails.of_eq (congrArg (owesE c) (owed_done c (n := 17) (k := 16) (by decide) (by decide)))) $$ HO
  iapply (load_slot (Memref.whole cc0_scratch1) c (n := 0) rfl) $$ HA'; iintro HA
  iapply (load_y c fy) $$ HY; iintro HY
  iapply (wpc_ret c)
  iapply Hk
  isplitl [HO]; · iexact HO
  isplitl [Hpts]; · iexact Hpts
  isplitl [HDX HFX]
  · isplitl [HDX]; · iexact HDX
    iexact HFX
  isplitl [HDA HatS HatR HD HA]
  · isplitl [HDA HatS HatR HD]
    · iapply (Entails.of_eq ((congrArg (fun t => bigSep t (DA c)) (Finset.range_eq_Ico 16).symm).trans (bigSep_range_succ 15 (DA c))).symm)
      isplitl [HatS HatR HD]
      · iapply (Entails.of_eq (DA.eq_1 c 15).symm)
        isplitl [HatS]; · iexact HatS
        isplitl [HatR]; · iexact HatR
        iexact HD
      iexact HDA
    unfold aAny; iexists _; iexact HA
  iexact HY

end Cert.RingProof

end
-- ==== Proof.Body.lean ====
/-
  The kernel's body on one device, from its start to its end.
-/
module

public import proofs.«01_k».proof.Proof.Parts
public import Idealize.ShloMosaic.Lib.MemrefSat
public import Idealize.ShloMosaic.Lib.PageRing.Basic
public import Idealize.ShloMosaic.Lib.Ring
public import Idealize.SL.BI.BigOpNat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) (s : Stg F) (K : Dev nD × J → ℕ) (S : Dev nD → Stg F)

/-! ## What a device starts with -/

/-- The duties a device will do, -/
def tokens (c : Dev nD) : sProp 𝕄 :=
  iprop(dutyTok ER (barC (prv c)) 0 true ∗ dutyTok ER (barC (nxt c)) 0 false
    ∗ (bigSep (Finset.range 16) fun n => dutyTok ER (xsC c n) 0 false) ∗ (bigSep (Finset.range 16) fun n => dutyTok ER (xrC (nxt c) n) 0 false)
    ∗ (bigSep (Finset.range 16) fun n => dutyTok ER (asC c n) 0 false) ∗ (bigSep (Finset.range 16) fun n => dutyTok ER (arC (nxt c) n) 0 false))
/-- its places at its own cells, -/
def posns (c : Dev nD) : sProp 𝕄 :=
  iprop(atPos ER (barC c) 0 ∅ 0
    ∗ (bigSep (Finset.range 16) fun n => atPos ER (xsC c n) 0 ∅ 0) ∗ (bigSep (Finset.range 16) fun n => atPos ER (xrC c n) 0 ∅ 0)
    ∗ (bigSep (Finset.range 16) fun n => atPos ER (asC c n) 0 ∅ 0) ∗ (bigSep (Finset.range 16) fun n => atPos ER (arC c n) 0 ∅ 0))
/-- and the credits for what it waits for. -/
def creds (c : Dev nD) : sProp 𝕄 :=
  iprop(cred (tallyAt (barC c) () 2) ∗ (bigSep (Finset.range 15) fun h => cred (tallyAt (xrC c (h + 1)) () NX))
    ∗ (bigSep (Finset.range 16) fun h => cred (tallyAt (arC c (h + 1)) () NA)))

/-- The semaphores at rest. -/
def rest (a : Fin 4) (c : Dev nD) : sProp 𝕄 := bigSep (Finset.range 16) fun n => semVal (dmaC a c n) 0
def sems (c : Dev nD) : sProp 𝕄 := iprop((rest 0 c ∗ rest 1 c ∗ rest 2 c ∗ rest 3 c) ∗ semVal (barC c) 0)

abbrev scr0 (c : Dev nD) : sProp 𝕄 := iprop(∃ f : Buf (Elt F) ((c : Thread nD τ).loc cc0_scratch0), ((c : Thread nD τ).loc cc0_scratch0) ↦{fullShare} f)
abbrev scr1 (c : Dev nD) : sProp 𝕄 := iprop(∃ f : Buf (Elt F) ((c : Thread nD τ).loc cc0_scratch1), ((c : Thread nD τ).loc cc0_scratch1) ↦{fullShare} f)

omit [FloatOps F] in
theorem range_rotate (A : ℕ → sProp 𝕄) (h : A 16 = A 0) : bigSep (Finset.range 16) A = bigSep (Finset.range 16) fun n => A (n + 1) := by
  rw [range_shift A 15, bigSep_range_succ 15 (fun n => A (n + 1)), ← h]

omit [FloatOps F] in
theorem x_intro : iprop((bigSep (Finset.range 16) fun n => dutyTok ER (xsC c n) 0 false) ∗ (bigSep (Finset.range 16) fun n => dutyTok ER (xrC (nxt c) n) 0 false)
      ∗ (bigSep (Finset.range 16) fun n => atPos ER (xsC c n) 0 ∅ 0) ∗ (bigSep (Finset.range 16) fun n => atPos ER (xrC c n) 0 ∅ 0)
      ∗ (bigSep (Finset.range 15) fun h => cred (tallyAt (xrC c (h + 1)) () NX)) ∗ (bigSep (Finset.range 15) fun h => xAny (nxt c) (h + 1)))
    ⊢ (iprop(bigSep (Finset.range 15) (WX c) ∗ (StX c 0 ∗ bigSep (Finset.Ico 1 15) (StX c)) ∗ atPos ER (xsC c 15) 0 ∅ 0 ∗ atPos ER (xrC c 0) 0 ∅ 0) : sProp 𝕄) := by
  rw [← bigSep_Ico_succ_bot (show 0 < 15 by decide) (StX c), ← Finset.range_eq_Ico]
  unfold WX StX
  simp only [bigSep_sep']
  rw [bigSep_range_succ 15 (fun n => dutyTok ER (xsC c n) 0 false), range_shift (fun n => dutyTok ER (xrC (nxt c) n) 0 false) 15,
    bigSep_range_succ 15 (fun n => atPos ER (xsC c n) 0 ∅ 0), range_shift (fun n => atPos ER (xrC c n) 0 ∅ 0) 15]
  iintro ⟨⟨-, H1⟩, ⟨-, H2⟩, ⟨H3', H3⟩, ⟨H4', H4⟩, H5, H6⟩
  isplitl [H3 H4 H5]
  · isplitl [H3]; · iexact H3
    isplitl [H4]; · iexact H4
    iexact H5
  isplitl [H1 H2 H6]
  · isplitl [H1]; · iexact H1
    isplitl [H2]; · iexact H2
    iexact H6
  isplitl [H3']; · iexact H3'
  iexact H4'

omit [FloatOps F] in
theorem a_dst : (bigSep (Finset.range 15) fun h => aAny (nxt c) (h + 1))
    ⊢ (bigSep (Finset.range 16) fun h => if h = 15 then iprop(emp) else aAny (nxt c) (h + 1) : sProp 𝕄) := by
  rw [bigSep_range_succ 15 (fun h => if h = 15 then iprop(emp) else aAny (nxt c) (h + 1)), if_pos rfl,
    bigSep_congr (s := Finset.range 15) (Φ := fun h => if h = 15 then iprop(emp) else aAny (nxt c) (h + 1)) (Ψ := fun h => aAny (nxt c) (h + 1))
      (fun h hh => if_neg (Nat.ne_of_lt (Finset.mem_range.mp hh)))]
  exact BI.emp_sep.2

omit [FloatOps F] in
theorem a_intro : iprop((bigSep (Finset.range 16) fun n => dutyTok ER (asC c n) 0 false) ∗ (bigSep (Finset.range 16) fun n => dutyTok ER (arC (nxt c) n) 0 false)
      ∗ (bigSep (Finset.range 16) fun n => atPos ER (asC c n) 0 ∅ 0) ∗ (bigSep (Finset.range 16) fun n => atPos ER (arC c n) 0 ∅ 0)
      ∗ (bigSep (Finset.range 16) fun h => cred (tallyAt (arC c (h + 1)) () NA)) ∗ (bigSep (Finset.range 15) fun h => aAny (nxt c) (h + 1)))
    ⊢ (iprop(bigSep (Finset.range 16) (WA c) ∗ (StA c 0 ∗ bigSep (Finset.Ico 1 16) (StA c))) : sProp 𝕄) := by
  rw [← bigSep_Ico_succ_bot (show 0 < 16 by decide) (StA c), ← Finset.range_eq_Ico]
  unfold WA StA
  simp only [bigSep_sep']
  rw [range_rotate (fun n => dutyTok ER (arC (nxt c) n) 0 false) (congrArg (fun g => (dutyTok ER g 0 false : sProp 𝕄)) (dmaC_mod (a := 3) (c := nxt c) (n := 16) (n' := 0) rfl)),
    range_rotate (fun n => atPos ER (arC c n) 0 ∅ 0) (congrArg (fun g => (atPos ER g 0 ∅ 0 : sProp 𝕄)) (dmaC_mod (a := 3) (c := c) (n := 16) (n' := 0) rfl))]
  iintro ⟨H1, H2, H3, H4, H5, H6⟩
  isplitl [H3 H4 H5]
  · isplitl [H3]; · iexact H3
    isplitl [H4]; · iexact H4
    iexact H5
  isplitl [H1]; · iexact H1
  isplitl [H2]; · iexact H2
  iapply (a_dst c); iexact H6

/-! ## Closing the cells -/

theorem close_one (P : Vals F) (a : Fin 4) (n R : ℕ) (hR : ∀ r, R ≤ r → (rd (F := F) P).duties (dmaC a c n) r = ∅) :
    iprop(records P K ∗ atPos ER (dmaC a c n) R ∅ 0) ⊢ iprop(|={Set.univ}=> semVal (dmaC a c n) 0) := by
  iintro ⟨HR, Hat⟩
  ihave H := (rec_dma P K a c n) $$ HR
  icases H with ⟨HI, -⟩
  iapply (Rounds.cell_close ER (rd P) (Set.mem_univ (kn K a c n)) (fun h => h) (R := R) hR)
  isplitl [HI] <;> iassumption

theorem close_bar (P : Vals F) : iprop(records P K ∗ atPos ER (barC c) 1 ∅ 0) ⊢ iprop(|={Set.univ}=> semVal (barC c) 0) := by
  iintro ⟨HR, Hat⟩
  ihave H := (rec_bar P K c) $$ HR
  icases H with ⟨HI, -⟩
  iapply (Rounds.cell_close ER (rd P) (Set.mem_univ (kb K c)) (fun h => h) (R := 1) (duties_later P (barC c)))
  isplitl [HI] <;> iassumption

theorem close_many (P : Vals F) (a : Fin 4) (T : Finset ℕ) (f : ℕ → ℕ) :
    iprop(records P K ∗ bigSep T fun n => atPos ER (dmaC a c (f n)) 1 ∅ 0) ⊢ iprop(|={Set.univ}=> bigSep T fun n => semVal (dmaC a c (f n)) 0) := by
  refine (sep_mono_left (bigSep_of_persistent T (records P K))).trans ?_
  rw [← bigSep_sep']
  exact (bigSep_mono fun n _ => close_one c K P a (f n) 1 (duties_later P _)).trans (bigSep_fupd _ _)

/-- The chunks' side at the end: the slots, the semaphores. -/
theorem x_exit : iprop(records (valsOf S) K ∗ bigSep (Finset.range 15) (DX c) ∗ FX c (valsOf S) 15 ∗ atPos ER (xsC c 15) 0 ∅ 0 ∗ atPos ER (xrC c 0) 0 ∅ 0)
    ⊢ iprop(|={Set.univ}=> (scr0 c ∗ rest 0 c ∗ rest 1 c)) := by
  unfold DX FX rest
  simp only [bigSep_sep']
  rw [if_neg (show ¬ 15 < 15 by decide), bigSep_range_succ 15 (fun n => semVal (dmaC 0 c n) 0), range_shift (fun n => semVal (dmaC 1 c n) 0) 15]
  iintro ⟨#HR, ⟨H1, H2, H3⟩, ⟨H4, H5⟩, H6, H7⟩
  imod (close_many c K (valsOf S) 0 (Finset.range 15) (fun n => n)) $$ [H1] with H1
  · isplitr; · iexact HR
    iexact H1
  imod (close_many c K (valsOf S) 1 (Finset.range 15) (fun n => n + 1)) $$ [H2] with H2
  · isplitr; · iexact HR
    iexact H2
  imod (close_one c K (valsOf S) 0 15 0 (duties_unused (valsOf S) c 0 15 (Or.inl ⟨rfl, rfl⟩))) $$ [H6] with H6
  · isplitr; · iexact HR
    iexact H6
  imod (close_one c K (valsOf S) 1 0 0 (duties_unused (valsOf S) c 1 0 (Or.inr ⟨rfl, rfl⟩))) $$ [H7] with H7
  · isplitr; · iexact HR
    iexact H7
  imodintro
  isplitl [H3 H4 H5]
  · iapply (x_join c)
    iapply (Entails.of_eq (bigSep_range_succ 15 (xAny c)).symm)
    isplitl [H4 H5]
    · ihave H := (owns_halves (c : Thread nD τ) (xS 15) fullShare ((valsOf S).x (back 15 c))).2 $$ [H4 H5]
      · isplitl [H5] <;> iassumption
      unfold xAny; iexists _; iexact H
    iexact H3
  isplitl [H1 H6]
  · isplitl [H6]; · iexact H6
    iexact H1
  isplitl [H7]; · iexact H7
  iexact H2

theorem a_exit : iprop(records (valsOf S) K ∗ bigSep (Finset.range 16) (DA c) ∗ aAny c 0)
    ⊢ iprop(|={Set.univ}=> (scr1 c ∗ rest 2 c ∗ rest 3 c)) := by
  unfold DA rest
  simp only [bigSep_sep']
  rw [range_rotate (fun n => semVal (dmaC 3 c n) 0) (congrArg (fun g => (semVal g 0 : sProp 𝕄)) (dmaC_mod (a := 3) (c := c) (n := 16) (n' := 0) rfl)),
    range_shift (asPay c) 15]
  iintro ⟨#HR, ⟨H1, H2, ⟨-, H3⟩⟩, H4⟩
  imod (close_many c K (valsOf S) 2 (Finset.range 16) (fun n => n)) $$ [H1] with H1
  · isplitr; · iexact HR
    iexact H1
  imod (close_many c K (valsOf S) 3 (Finset.range 16) (fun n => n + 1)) $$ [H2] with H2
  · isplitr; · iexact HR
    iexact H2
  imodintro
  isplitl [H3 H4]
  · iapply (a_join c)
    iapply (Entails.of_eq (range_shift (aAny c) 15).symm)
    isplitl [H4]; · iexact H4
    iapply (Entails.of_eq (bigSep_congr (s := Finset.range 15) (Φ := fun n => (asPay c (n + 1) : sProp 𝕄)) (Ψ := fun n => aAny c (n + 1)) fun n _ => if_neg (Nat.succ_ne_zero n)))
    iexact H3
  isplitl [H1]; · iexact H1
  iexact H2

/-! ## The body -/

theorem wpc_ret_fupd {α : Type} {Q : α → sProp 𝕄} {a : α} :
    iprop(|={Set.univ}=> Q a) ⊢ wpc c (.ret a : Prog (TpuEff nD τ sig (Elt F) Λ₀ .tc) α) Q := by
  unfold wpc
  rw [wp_ret]

theorem store_y (f w : (cc0_stg5_0 : Ref sig .tc).ty.Contents (Elt F)) {α : Type} {Q : α → sProp 𝕄} {hx} {hm} {k : PUnit → Prog (TpuEff nD τ sig (Elt F) Λ₀ .tc) α} :
    ptY c f ⊢ iprop((ptY c w -∗ wpc c (k ⟨⟩) Q)
      -∗ wpc c (.op (.store (Memref.whole cc0_stg5_0 : Memref sig .tc .vmem S512x1024 .f32) (Rect.unit (s := S512x1024) ![0, 0] S512x1024.size inb_S512x1024_S512x1024_0_0) w Finset.univ hx hm) k) Q) := by
  have e : ((Memref.whole cc0_stg5_0 : Memref sig .tc .vmem S512x1024 .f32).access (Rect.unit (s := S512x1024) ![0, 0] S512x1024.size inb_S512x1024_S512x1024_0_0)).write (Elt F) f w Finset.univ = w :=
    Memref.write_access_unit_zero_univ (Elt F) cc0_stg5_0 (show (![0, 0] : Fin 2 → ℕ) = fun _ => 0 by decide) _ f w
  iintro H Hk
  iapply (wp_store 𝒱₀ (c : Thread nD τ) none Set.univ (m := (Memref.whole cc0_stg5_0 : Memref sig .tc .vmem S512x1024 .f32)) (r := Rect.unit (s := S512x1024) ![0, 0] S512x1024.size inb_S512x1024_S512x1024_0_0) (w := w)
    (S := Finset.univ) (f := f) (Finset.subset_univ _)) $$ H
  iintro H
  ihave H := (Entails.of_eq (congrArg (fun g => ptY c g) e)) $$ H
  iapply Hk
  iexact H

theorem body_spec (fy : (cc0_stg5_0 : Ref sig .tc).ty.Contents (Elt F)) {Q : _ → sProp 𝕄} :
    iprop(records (valsOf S) K ∗ levAts L lv ∗ tokens c ∗ posns c ∗ creds c ∗ scr0 c ∗ scr1 c ∗ owesE c (O₀ c)
        ∗ (ptX c (S c) ∗ ptQ c (S c) ∗ ptO c (S c) ∗ ptK c (S c) ∗ ptV c (S c) ∗ ptY c fy)
        ∗ ((sems c ∗ scr0 c ∗ scr1 c ∗ owesE c 0
            ∗ (ptX c (S c) ∗ ptQ c (S c) ∗ ptO c (S c) ∗ ptK c (S c) ∗ ptV c (S c) ∗ ptY c (k0_pay34 (accOf S 15 (prv c))))) -∗ Q ⟨⟩))
      ⊢ wpc c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) Q := by
  rw [cc0_body_eq_skeleton]; unfold cc0_body_skel tokens posns creds
  iintro ⟨#HR, #Hlev, ⟨Tb1, Tb2, Txs, Txr, Tas, Tar⟩, ⟨Pb, Pxs, Pxr, Pas, Par⟩, ⟨Cb, Cx, Ca⟩, Hs0, Hs1, HO, ⟨HX, HQ, HW, HK, HV, HY⟩, Hk⟩
  ihave Hx := ((x_split c).trans (Entails.of_eq (range_shift (xAny c) 15))) $$ Hs0
  icases Hx with ⟨Hx0, Hxs⟩
  ihave Ha := ((a_split c).trans (Entails.of_eq (range_shift (aAny c) 15))) $$ Hs1
  icases Ha with ⟨Ha0, Has⟩
  iapply (wpc_bind c)
  iapply (part6_spec c K S)
  isplitr; · iexact HR
  isplitr; · iexact Hlev
  isplitl [HO]; · iexact HO
  isplitl [Tb1 Tb2]
  · isplitl [Tb1]; · iexact Tb1
    iexact Tb2
  isplitl [Cb]; · iexact Cb
  isplitl [Pb]; · iexact Pb
  isplitl [HX]; · iexact HX
  isplitl [Hx0]; · iexact Hx0
  isplitl [Hxs]; · iexact Hxs
  isplitl [Has]; · iexact Has
  iintro %v7 ⟨HO, Pb, Hbar, HX, Hx0⟩
  dsimp only
  ihave Hbar' := (Entails.of_eq (barPay.eq_1 c)) $$ Hbar
  icases Hbar' with ⟨Hxd, Had⟩
  ihave Hxi := (x_intro c) $$ [Txs Txr Pxs Pxr Cx Hxd]
  · isplitl [Txs]; · iexact Txs
    isplitl [Txr]; · iexact Txr
    isplitl [Pxs]; · iexact Pxs
    isplitl [Pxr]; · iexact Pxr
    isplitl [Cx]; · iexact Cx
    iexact Hxd
  icases Hxi with ⟨HWX, ⟨HStX0, HStX⟩, P15, P0⟩
  ihave Hai := (a_intro c) $$ [Tas Tar Pas Par Ca Had]
  · isplitl [Tas]; · iexact Tas
    isplitl [Tar]; · iexact Tar
    isplitl [Pas]; · iexact Pas
    isplitl [Par]; · iexact Par
    isplitl [Ca]; · iexact Ca
    iexact Had
  icases Hai with ⟨HWA, ⟨HStA0, HStA⟩⟩
  ihave Hst := (Entails.of_eq (StX.eq_1 c 0)) $$ HStX0
  icases Hst with ⟨T1, T2, Hd⟩
  iapply (wpc_bind c)
  iapply (part7_spec c K S)
  isplitr; · iexact HR
  isplitl [HO]; · iexact HO
  isplitl [Hx0]; · iexact Hx0
  isplitl [Hd]; · iexact Hd
  isplitl [T1 T2]
  · isplitl [T1]; · iexact T1
    iexact T2
  isplitl [HQ]; · iexact HQ
  isplitl [HK]; · iexact HK
  isplitl [HV]; · iexact HV
  iintro ⟨HO, HFX, HQ, HK, HV⟩
  dsimp only
  iapply (wpc_bind c)
  iapply (part8_spec c (S c))
  isplitl [HK]; · iexact HK
  isplitl [HV]; · iexact HV
  iintro ⟨HK, HV⟩
  dsimp only
  iapply (wpc_bind c)
  iapply (part9_spec c (S c))
  isplitl [HK]; · iexact HK
  isplitl [HV]; · iexact HV
  iintro ⟨HK, HV⟩
  dsimp only
  iapply (wpc_bind c)
  iapply (part10_spec c (S c))
  isplitl [Ha0]; · iexact Ha0
  isplitl [HW]; · iexact HW
  isplitl [HK]; · iexact HK
  isplitl [HV]; · iexact HV
  iintro ⟨Ha0, HW, HK, HV⟩
  ihave Hst := ((Entails.of_eq (StA.eq_1 c 0)).trans (Entails.of_eq (congrArg (fun R => (iprop(dutyTok ER (asC c 0) 0 false ∗ dutyTok ER (arC (nxt c) (0 + 1)) 0 false ∗ R) : sProp 𝕄)) (if_neg (show ¬ 0 = 15 by decide))))) $$ HStA0
  icases Hst with ⟨T1, T2, Hd⟩
  iapply (wpc_bind c)
  iapply (part11_spec c K S v7 fy)
  isplitr; · iexact HR
  isplitr; · iexact Hlev
  isplitl [HO]; · iexact HO
  isplitl [Ha0]; · iexact Ha0
  isplitl [T1 T2 Hd]
  · isplitl [T1]; · iexact T1
    isplitl [T2]; · iexact T2
    iexact Hd
  isplitl [HQ HW HK HV]
  · isplitl [HQ]; · iexact HQ
    isplitl [HW]; · iexact HW
    isplitl [HK]; · iexact HK
    iexact HV
  isplitl [HWX HStX HFX]
  · isplitl [HWX]; · iexact HWX
    isplitl [HStX]; · iexact HStX
    iexact HFX
  isplitl [HWA HStA]
  · isplitl [HWA]; · iexact HWA
    iexact HStA
  isplitl [HY]; · iexact HY
  iintro ⟨HO, ⟨HQ, HW, HK, HV⟩, ⟨HDX, HFX⟩, ⟨HDA, Ha0⟩, HY⟩
  simp only [Prog.lift, Prog.bind_op, Prog.bind_ret, Prog.pure_eq_ret]
  iapply (store_y c fy) $$ HY; iintro HY
  iapply (wpc_ret_fupd c)
  imod (x_exit c K S) $$ [HDX HFX P15 P0] with ⟨Hs0, Hr0, Hr1⟩
  · isplitr; · iexact HR
    isplitl [HDX]; · iexact HDX
    isplitl [HFX]; · iexact HFX
    isplitl [P15]; · iexact P15
    iexact P0
  imod (a_exit c K S) $$ [HDA Ha0] with ⟨Hs1, Hr2, Hr3⟩
  · isplitr; · iexact HR
    isplitl [HDA]; · iexact HDA
    iexact Ha0
  imod (close_bar c K (valsOf S)) $$ [Pb] with Hb
  · isplitr; · iexact HR
    iexact Pb
  imodintro
  iapply Hk
  unfold sems
  isplitl [Hr0 Hr1 Hr2 Hr3 Hb]
  · isplitr [Hb]
    · isplitl [Hr0]; · iexact Hr0
      isplitl [Hr1]; · iexact Hr1
      isplitl [Hr2]; · iexact Hr2
      iexact Hr3
    iexact Hb
  isplitl [Hs0]; · iexact Hs0
  isplitl [Hs1]; · iexact Hs1
  isplitl [HO]; · iexact HO
  isplitl [HX]; · iexact HX
  isplitl [HQ]; · iexact HQ
  isplitl [HW]; · iexact HW
  isplitl [HK]; · iexact HK
  isplitl [HV]; · iexact HV
  iexact HY

end Cert.RingProof

end
-- ==== Proof.Launch.lean ====
/-
  The kernel on the whole mesh, from its launch to its end.
-/
module

public import proofs.«01_k».proof.Proof.Body
public import proofs.«01_k».proof.Proof.Gen.KernelIdeal.Frame
public import Idealize.ShloMosaic.Lib.Pipeline.Launch
public import Idealize.ShloMosaic.Lib.Pipeline.Kit
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- What device `c` stages. -/
def stgOf (c : Dev nD) : Stg F := ⟨iblk m c 0 t0_0, iblk m c 1 t0_0, iblk m c 2 t0_0, iblk m c 3 t0_0, iblk m c 4 t0_0⟩

/-- The result on device `c`: the sum its own chunk comes back with. -/
def outAt (c : Dev nD) : (cc0_stg5_0 : Ref sig .tc).ty.Contents (Elt F) := k0_pay34 (accOf (stgOf m) 15 (prv c))

/-- What the body of device `c` starts from besides the scratch buffers. -/
def start (c : Dev nD) : sProp 𝕄 :=
  iprop((∃ K, records (valsOf (stgOf m)) K ∗ posns c ∗ tokens c) ∗ creds c ∗ levAts L lv)
def Φ₀ (c : Dev nD) : sProp 𝕄 := iprop(start m c ∗ scr0 c ∗ scr1 c)
def Φ₁ (c : Dev nD) : sProp 𝕄 := iprop(sems c ∗ scr0 c ∗ scr1 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (stgOf m c).x
    | ⟨1, _⟩ => (stgOf m c).wq
    | ⟨2, _⟩ => (stgOf m c).wo
    | ⟨3, _⟩ => (stgOf m c).kk
    | ⟨4, _⟩ => (stgOf m c).vv
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem before_0 (c : Dev nD) (d) : (dats m ρ 0 c).before 0 t0_0 d = (stgOf m c).x := by unfold Dat.before; rw [if_pos (fetch0_0 t0_0)]; rfl
theorem before_1 (c : Dev nD) (d) : (dats m ρ 0 c).before 1 t0_0 d = (stgOf m c).wq := by unfold Dat.before; rw [if_pos (fetch0_1 t0_0)]; rfl
theorem before_2 (c : Dev nD) (d) : (dats m ρ 0 c).before 2 t0_0 d = (stgOf m c).wo := by unfold Dat.before; rw [if_pos (fetch0_2 t0_0)]; rfl
theorem before_3 (c : Dev nD) (d) : (dats m ρ 0 c).before 3 t0_0 d = (stgOf m c).kk := by unfold Dat.before; rw [if_pos (fetch0_3 t0_0)]; rfl
theorem before_4 (c : Dev nD) (d) : (dats m ρ 0 c).before 4 t0_0 d = (stgOf m c).vv := by unfold Dat.before; rw [if_pos (fetch0_4 t0_0)]; rfl

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before 0 t0_0 d)) ∗ (∃ d, stg c cc0_stg1_0 ((dats m ρ 0 c).before 1 t0_0 d))
    ∗ (∃ d, stg c cc0_stg2_0 ((dats m ρ 0 c).before 2 t0_0 d)) ∗ (∃ d, stg c cc0_stg3_0 ((dats m ρ 0 c).before 3 t0_0 d))
    ∗ (∃ d, stg c cc0_stg4_0 ((dats m ρ 0 c).before 4 t0_0 d)) ∗ (∃ d, stg c cc0_stg5_0 ((dats m ρ 0 c).before 5 t0_0 d)))

set_option maxRecDepth 4000 in
def bodyPost (c : Dev nD) : sProp 𝕄 :=
  iprop(Φ₁ c ∗ (dats m ρ 0 c).owesAt () t0_0.succ ∗ stg c cc0_stg0_0 (stgOf m c).x ∗ stg c cc0_stg1_0 (stgOf m c).wq ∗ stg c cc0_stg2_0 (stgOf m c).wo
    ∗ stg c cc0_stg3_0 (stgOf m c).kk ∗ stg c cc0_stg4_0 (stgOf m c).vv ∗ stg c cc0_stg5_0 (outAt m c))

set_option maxRecDepth 4000 in
theorem sound_body (c : Dev nD) : bodyPre m ρ c ⊢ wpc c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) (fun _ => bodyPost m ρ c) := by
  unfold bodyPre Φ₀ start Dat.owesAt Pipeline.owesWithin
  simp only [before_0, before_1, before_2, before_3, before_4]
  iintro ⟨⟨⟨⟨%K, #HR, HP, HT⟩, HC, #Hlev⟩, Hs0, Hs1⟩, ⟨%W, %hW, HO⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  subst hg0 hg1 hg2 hg3 hg4
  iapply (body_spec c K (stgOf m) g5)
  isplitr; · iexact HR
  isplitr; · iexact Hlev
  isplitl [HT]; · iexact HT
  isplitl [HP]; · iexact HP
  isplitl [HC]; · iexact HC
  isplitl [Hs0]; · iexact Hs0
  isplitl [Hs1]; · iexact Hs1
  isplitl [HO]; · unfold owesE; iexists W; iexact HO
  isplitl [H0 H1 H2 H3 H4 H5]
  · isplitl [H0]; · iexact H0
    isplitl [H1]; · iexact H1
    isplitl [H2]; · iexact H2
    isplitl [H3]; · iexact H3
    isplitl [H4]; · iexact H4
    iexact H5
  unfold bodyPost Φ₁ Dat.owesAt Pipeline.owesWithin owesE
  iintro ⟨Hsm, Hs0, Hs1, ⟨%W', HO⟩, H0, H1, H2, H3, H4, H5⟩
  isplitl [Hsm Hs0 Hs1]
  · isplitl [Hsm]; · iexact Hsm
    isplitl [Hs0]; · iexact Hs0
    iexact Hs1
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

omit [FloatOps F] in
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

/-! ## The launch -/

def osem (p : Fin 4 × Fin 16) : SemLoc sig := .dma (dmaD p.1 p.2.val)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  rintro (u | p) (u' | p') h
  · rfl
  · exact absurd h (by rintro ⟨⟩)
  · exact absurd h (by rintro ⟨⟩)
  · have h' := dmaD_inj (SemLoc.dma.inj h)
    rw [Nat.mod_eq_of_lt p.2.isLt, Nat.mod_eq_of_lt p'.2.isLt] at h'
    exact congrArg Sum.inr (Prod.ext h'.1 (Fin.ext h'.2))
theorem kcell_injective : Function.Injective kcell := by
  rintro ⟨c, j⟩ ⟨c', j'⟩ h
  have h1 : c = c' := congrArg (fun g : GSem nD τ sig => g.1.1) h
  have h2 : csem j = csem j' := congrArg Prod.snd h
  rw [h1, csem_injective h2]
def ringCells : Finset (GSem nD τ sig) := Finset.univ.map ⟨kcell, kcell_injective⟩

/-- The duties of a device's own cells: the barrier's two, one of each numbered semaphore. -/
abbrev T : Type := Bool ⊕ (Fin 4 × Fin 16)
def tokOf (x : Dev nD × T) : GSem nD τ sig × ℕ × Bool := match x.2 with
  | .inl b => (barC x.1, 0, b)
  | .inr p => (dmaC p.1 x.1 p.2.val, 0, false)
theorem tokOf_injective : Function.Injective tokOf := by
  rintro ⟨c, b | p⟩ ⟨c', b' | p'⟩ h
  · have h1 : c = c' := congrArg (fun x : GSem nD τ sig × ℕ × Bool => x.1.1.1) h
    have h2 : b = b' := congrArg (fun x : GSem nD τ sig × ℕ × Bool => x.2.2) h
    rw [h1, h2]
  · exact absurd (congrArg (fun x : GSem nD τ sig × ℕ × Bool => x.1.2) h) (by rintro ⟨⟩)
  · exact absurd (congrArg (fun x : GSem nD τ sig × ℕ × Bool => x.1.2) h) (by rintro ⟨⟩)
  · have h' := dmaC_inj (congrArg Prod.fst h)
    rw [Nat.mod_eq_of_lt p.2.isLt, Nat.mod_eq_of_lt p'.2.isLt] at h'
    rw [show c = c' from h'.2.1, show p = p' from Prod.ext h'.1 (Fin.ext h'.2.2)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

omit [FloatOps F] in
/-- The numbered semaphores of a device, array by array. -/
theorem bigSep_grid (Ψ : Fin 4 → ℕ → sProp 𝕄) : bigSep Finset.univ (fun p : Fin 4 × Fin 16 => Ψ p.1 p.2.val)
    = iprop(bigSep (Finset.range 16) (Ψ 0) ∗ bigSep (Finset.range 16) (Ψ 1) ∗ bigSep (Finset.range 16) (Ψ 2) ∗ bigSep (Finset.range 16) (Ψ 3)) := by
  rw [bigSep_univ_prod (fun p : Fin 4 × Fin 16 => Ψ p.1 p.2.val),
    bigSep_congr (s := Finset.univ) (fun (a : Fin 4) _ => Ring.bigSep_fin_eq_range 16 (fun n : Fin 16 => Ψ a n.val) (Ψ a) (fun _ _ => rfl))]
  exact bigSep_univ_eq_bigSepL [0, 1, 2, 3] (by decide) (by decide) _

omit [FloatOps F] in
theorem bigSep_J (Ψ : J → sProp 𝕄) : bigSep Finset.univ Ψ = iprop(Ψ (.inl ()) ∗ bigSep Finset.univ fun p : Fin 4 × Fin 16 => Ψ (.inr p)) := by
  rw [bigSep_univ_sum]
  congr 1
  exact bigSep_univ_eq_bigSepL [()] (by decide) (by decide) _

/-- The tokens of device `c`'s own cells. -/
def toks (c : Dev nD) : sProp 𝕄 :=
  iprop((dutyTok ER (barC c) 0 false ∗ dutyTok ER (barC c) 0 true)
    ∗ (bigSep (Finset.range 16) fun n => dutyTok ER (xsC c n) 0 false) ∗ (bigSep (Finset.range 16) fun n => dutyTok ER (xrC c n) 0 false)
    ∗ (bigSep (Finset.range 16) fun n => dutyTok ER (asC c n) 0 false) ∗ (bigSep (Finset.range 16) fun n => dutyTok ER (arC c n) 0 false))

def G (c : Dev nD) : sProp 𝕄 :=
  iprop((bigSep Finset.univ fun k : J => roundState ER (rd (valsOf (stgOf m))) (kcell (c, k)) 0)
    ∗ (bigSep Finset.univ fun k : J => iprop(atPos ER (kcell (c, k)) 0 ∅ 0 ∗ reached ER (kcell (c, k)) 0)) ∗ toks c)
def G' (c : Dev nD) : sProp 𝕄 := iprop(∃ K, records (valsOf (stgOf m)) K ∗ posns c ∗ tokens c)

omit [FloatOps F] in
theorem toks_eq (c : Dev nD) : (bigSep Finset.univ fun t : T => (dutyTok ER (tokOf (c, t)).1 (tokOf (c, t)).2.1 (tokOf (c, t)).2.2 : sProp 𝕄)) = toks c := by
  rw [bigSep_univ_sum]
  unfold toks
  rw [← bigSep_grid (fun a n => dutyTok ER (dmaC a c n) 0 false)]
  congr 1
  exact bigSep_univ_eq_bigSepL [false, true] (by decide) (by decide) _

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : J => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (rd (valsOf (stgOf m))) ringCells ringToks) $$ HX with ⟨Hst, Hr, Hat, Htok⟩
  imodintro
  ihave Hst' := (Entails.of_eq (hX fun g => roundState ER (rd (valsOf (stgOf m))) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun p : Fin 4 × Fin 16 => semVal (dmaC p.1 c p.2.val) 0 := rfl
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : J => semVal (kcell (c, k)) 0 : sProp 𝕄) := by
  rw [ownSems0_eq, unscopedSems0_eq, bigSep_J]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd (valsOf (stgOf m))) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : J => semVal (kcell (c, k)) 0) ∗ bigSep Finset.univ fun k : J => roundState ER (rd (valsOf (stgOf m))) (kcell (c, k)) 0)
      ⊢ (|={Set.univ}=> bigSep Finset.univ fun k => iprop(∃ κ : ℕ, cellInv ER (rd (valsOf (stgOf m))) κ (kcell (c, k))) : sProp 𝕄) from by
        rw [← bigSep_sep']
        exact (bigSep_mono fun k _ => (Rounds.body_intro ER (rd (valsOf (stgOf m))) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem toks_around : (bigSep Finset.univ fun c : Dev nD => (toks c : sProp 𝕄)) ⊢ bigSep Finset.univ fun c : Dev nD => tokens c := by
  unfold toks tokens
  simp only [bigSep_sep']
  rw [bigSep_univ_equiv ring (fun c : Dev nD => (dutyTok ER (barC c) 0 false : sProp 𝕄)),
    bigSep_univ_equiv ring.symm (fun c : Dev nD => (dutyTok ER (barC c) 0 true : sProp 𝕄)),
    bigSep_univ_equiv ring (fun c : Dev nD => (bigSep (Finset.range 16) fun n => (dutyTok ER (xrC c n) 0 false : sProp 𝕄))),
    bigSep_univ_equiv ring (fun c : Dev nD => (bigSep (Finset.range 16) fun n => (dutyTok ER (arC c n) 0 false : sProp 𝕄)))]
  iintro ⟨⟨H1, H2⟩, H3, H4, H5, H6⟩
  isplitl [H2]; · iexact H2
  isplitl [H1]; · iexact H1
  isplitl [H3]; · iexact H3
  isplitl [H4]; · iexact H4
  isplitl [H5]; · iexact H5
  iexact H6

omit [FloatOps F] in
theorem posns_eq (c : Dev nD) : (bigSep Finset.univ fun k : J => (atPos ER (kcell (c, k)) 0 ∅ 0 : sProp 𝕄)) = posns c := by
  rw [bigSep_J]
  unfold posns
  rw [← bigSep_grid (fun a n => atPos ER (dmaC a c n) 0 ∅ 0)]
  rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd (valsOf (stgOf m))) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × J => iprop(∃ κ : ℕ, cellInv ER (rd (valsOf (stgOf m))) κ (kcell ck))),
    bigSep_congr (s := Finset.univ) (fun (c : Dev nD) _ => bigSep_sep' Finset.univ (fun k : J => (atPos ER (kcell (c, k)) 0 ∅ 0 : sProp 𝕄)) (fun k => reached ER (kcell (c, k)) 0)),
    bigSep_sep', ← bigSep_univ_prod (fun ck : Dev nD × J => (reached ER (kcell ck) 0 : sProp 𝕄)),
    bigSep_congr (s := Finset.univ) (fun (c : Dev nD) _ => posns_eq c)]
  iintro ⟨HI, ⟨Hat, #HR⟩, Htok⟩
  ihave HK := (BI.bigSep_exists_pi Finset.univ (fun (ck : Dev nD × J) (κ : ℕ) => (cellInv ER (rd (valsOf (stgOf m))) κ (kcell ck) : sProp 𝕄))) $$ HI
  icases HK with ⟨%K, #HI⟩
  ihave Htk := (toks_around (F := F)) $$ Htok
  iapply (bigSep_with_persistent (R := records (valsOf (stgOf m)) K) (Φ := fun c => iprop(posns c ∗ tokens c)) fun c _ => show _ ⊢ G' m c from by
    unfold G'
    iintro ⟨H1, H2⟩
    iexists K
    isplitl [H1]; · iexact H1
    iexact H2)
  isplitr
  · unfold records; isplitl; · iexact HI
    iexact HR
  · iapply (Entails.of_eq (bigSep_sep' Finset.univ (fun c : Dev nD => posns c) (fun c : Dev nD => tokens c)).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem owed_apply (d : Dev nD) (g : GSem nD τ sig) :
    owed d 0 0 g () = (∑ h ∈ Finset.Ico 0 15, if g = xrC (nxt d) (h + 1) then NX else 0) + ∑ h ∈ Finset.Ico 0 16, if g = arC (nxt d) (h + 1) then NA else 0 := by
  unfold owed
  rw [Pi.add_apply, Finsupp.add_apply, Finset.sum_apply, Finsupp.finset_sum_apply, Finset.sum_apply, Finsupp.finset_sum_apply]
  refine congrArg₂ (· + ·) ?_ ?_
  · exact Finset.sum_congr rfl fun h _ => by unfold oweX; rw [tallyAt_apply]; exact if_congr (by simp) rfl rfl
  · exact Finset.sum_congr rfl fun h _ => by unfold oweA; rw [tallyAt_apply]; exact if_congr (by simp) rfl rfl

theorem O₀_apply (d : Dev nD) (g : GSem nD τ sig) :
    O₀ d g () = owed d 0 0 g () + (if g = barC (nxt d) then 1 else 0) + if g = barC (prv d) then 1 else 0 := by
  unfold O₀ O₁
  rw [Pi.add_apply, Finsupp.add_apply, Pi.add_apply, Finsupp.add_apply, tallyAt_apply, tallyAt_apply]
  refine congrArg₂ (· + ·) (congrArg₂ (· + ·) rfl ?_) ?_
  · exact if_congr (by simp) rfl rfl
  · exact if_congr (by simp) rfl rfl

/-- The hops that reach a cell: one, from the left neighbour. -/
theorem hop_sum (a : Fin 4) (c d : Dev nD) (b N j : ℕ) (hb : b ≤ 16) (hj : j < b) :
    (∑ h ∈ Finset.Ico 0 b, if dmaC a c (j + 1) = dmaC a (nxt d) (h + 1) then N else 0) = if d = prv c then N else 0 := by
  by_cases hd : d = prv c
  · subst hd
    rw [if_pos rfl, Finset.sum_eq_single j, nxt_prv, if_pos rfl]
    · intro h hh hne
      rw [Finset.mem_Ico] at hh
      exact if_neg fun he => hne (by have := (dmaC_inj he).2.2; omega)
    · exact fun hn => absurd (Finset.mem_Ico.mpr ⟨Nat.zero_le j, hj⟩) hn
  · rw [if_neg hd]
    exact Finset.sum_eq_zero fun h _ => if_neg fun he => hd (by rw [(dmaC_inj he).2.1, prv_nxt])

theorem hop_none (a a' : Fin 4) (ha : a ≠ a') (c d : Dev nD) (b N j : ℕ) :
    (∑ h ∈ Finset.Ico 0 b, if dmaC a c j = dmaC a' (nxt d) (h + 1) then N else 0) = 0 :=
  Finset.sum_eq_zero fun h _ => if_neg fun he => ha (dmaC_inj he).1

theorem dmaC_ne_barC (a : Fin 4) (c d : Dev nD) (n : ℕ) : dmaC a c n ≠ barC d := fun h => dma_ne_bar a n (congrArg Prod.snd h)

theorem bar_eq_iff {a b : Dev nD} : barC a = barC b ↔ a = b :=
  ⟨fun h => congrArg (fun g : GSem nD τ sig => g.1.1) h, fun h => h ▸ rfl⟩

theorem O₀_x (c d : Dev nD) (j : ℕ) (hj : j < 15) : O₀ d (xrC c (j + 1)) () = if d = prv c then NX else 0 := by
  rw [O₀_apply, owed_apply, if_neg (dmaC_ne_barC _ _ _ _), if_neg (dmaC_ne_barC _ _ _ _), Nat.add_zero, Nat.add_zero, hop_sum 1 c d 15 NX j (by decide) hj,
    hop_none 1 3 (by decide) c d 16 NA (j + 1), Nat.add_zero]
theorem O₀_a (c d : Dev nD) (j : ℕ) (hj : j < 16) : O₀ d (arC c (j + 1)) () = if d = prv c then NA else 0 := by
  rw [O₀_apply, owed_apply, if_neg (dmaC_ne_barC _ _ _ _), if_neg (dmaC_ne_barC _ _ _ _), Nat.add_zero, Nat.add_zero, hop_sum 3 c d 16 NA j (by decide) hj,
    hop_none 3 1 (by decide) c d 15 NX (j + 1), Nat.zero_add]
theorem O₀_bar (c d : Dev nD) : O₀ d (barC c) () = (if d = prv c then 1 else 0) + if d = nxt c then 1 else 0 := by
  rw [O₀_apply, owed_apply, Finset.sum_eq_zero fun h _ => if_neg (dmaC_ne_barC _ _ _ _).symm, Finset.sum_eq_zero fun h _ => if_neg (dmaC_ne_barC _ _ _ _).symm,
    Nat.add_zero, Nat.zero_add]
  refine congrArg₂ (· + ·) ?_ ?_
  · exact if_congr ⟨fun h => by rw [bar_eq_iff.mp h, prv_nxt], fun h => by rw [h, nxt_prv]⟩ rfl rfl
  · exact if_congr ⟨fun h => by rw [bar_eq_iff.mp h, nxt_prv], fun h => by rw [h, prv_nxt]⟩ rfl rfl

theorem launch_at {g : GSem nD τ sig} {n : ℕ} (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_x (c : Dev nD) (j : ℕ) (hj : j < 15) : tallyOn (xrC c (j + 1)) (launchCredit (Pipeline.owing O₀) 0 (xrC c (j + 1))) = (tallyAt (xrC c (j + 1)) () NX : CellTallies nD τ sig Unit) :=
  launch_at (by rw [Finset.sum_congr rfl fun d _ => O₀_x c d j hj, Finset.sum_ite_eq' Finset.univ (prv c) fun _ => NX, if_pos (Finset.mem_univ _)])
theorem launch_a (c : Dev nD) (j : ℕ) (hj : j < 16) : tallyOn (arC c (j + 1)) (launchCredit (Pipeline.owing O₀) 0 (arC c (j + 1))) = (tallyAt (arC c (j + 1)) () NA : CellTallies nD τ sig Unit) :=
  launch_at (by rw [Finset.sum_congr rfl fun d _ => O₀_a c d j hj, Finset.sum_ite_eq' Finset.univ (prv c) fun _ => NA, if_pos (Finset.mem_univ _)])
theorem launch_bar (c : Dev nD) : tallyOn (barC c) (launchCredit (Pipeline.owing O₀) 0 (barC c)) = (tallyAt (barC c) () 2 : CellTallies nD τ sig Unit) :=
  launch_at (by rw [Finset.sum_congr rfl fun d _ => O₀_bar c d, Finset.sum_add_distrib, Finset.sum_ite_eq' Finset.univ (prv c) fun _ => 1,
    Finset.sum_ite_eq' Finset.univ (nxt c) fun _ => 1, if_pos (Finset.mem_univ _), if_pos (Finset.mem_univ _)])

omit [FloatOps F] in
theorem creds_intro (c : Dev nD) : (Pipeline.launchCred O₀ c : sProp 𝕄) ⊢ creds c := by
  unfold Pipeline.launchCred
  refine (bigSep_subset (Finset.subset_univ (Finset.univ.map ⟨csem, csem_injective⟩))).trans ?_
  rw [bigSep_map, bigSep_J]
  unfold creds
  refine BI.sep_mono (Entails.of_eq (congrArg (fun t => (cred t : sProp 𝕄)) (launch_bar c))) ?_
  refine (Entails.of_eq (bigSep_grid (fun a n => cred (tallyOn (dmaC a c n) (launchCredit (Pipeline.owing O₀) 0 (dmaC a c n)))))).trans ?_
  rw [range_shift (fun n => cred (tallyOn (dmaC 1 c n) (launchCredit (Pipeline.owing O₀) 0 (dmaC 1 c n)))) 15,
    range_rotate (fun n => cred (tallyOn (dmaC 3 c n) (launchCredit (Pipeline.owing O₀) 0 (dmaC 3 c n))))
      (congrArg (fun g => (cred (tallyOn g (launchCredit (Pipeline.owing O₀) 0 g)) : sProp 𝕄)) (dmaC_mod (a := 3) (c := c) (n := 16) (n' := 0) rfl)),
    bigSep_congr (s := Finset.range 15) (fun j hj => congrArg (fun t => (cred t : sProp 𝕄)) (launch_x c j (Finset.mem_range.mp hj))),
    bigSep_congr (s := Finset.range 16) (fun j hj => congrArg (fun t => (cred t : sProp 𝕄)) (launch_a c j (Finset.mem_range.mp hj)))]
  iintro ⟨-, ⟨-, H1⟩, -, H2⟩
  isplitl [H1]; · iexact H1
  iexact H2

/-! ### The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq,
    bigSep_grid (fun a n => semVal (dmaC a c n) 0)]
  unfold Φ₁ sems rest
  iintro ⟨⟨HS, HB⟩, H0, H1⟩
  isplitl [HB]; · iexact HB
  isplitl [HS]; · iexact HS
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of sixteen devices, for any float values, from any memory with zero counters: every weakly fair execution
    ends, with the computed result on every device, the operands as they were and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run. -/
theorem finalA_in (c : Dev nD) (w : Fin cfg0.W) (hw : (cfg0.win w).isOut = false) : finalA m ρ c w = m ((cfg0.win w).arr.view.loc (c : Thread nD τ)) :=
  (dats (F := F) m ρ 0 c).arrAt_in w hw _

end Cert.RingProof

end
-- ==== Proof.Frames.lean ====
/-
  The frames: the kernel's, from its run on the mesh, and the reference's; the facts of the precondition's shapes.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.RingProof

open Cert.KernelIdeal Cert.KernelIdeal.Gen
open Idealize.ShloMosaic Idealize.ShloMosaic.TcCoe Idealize.SL.Sem

variable {F : FTy → Type} [FloatOps F]

/-- The kernel leaves its operands as they were and every counter at zero, for any float values. -/
theorem run_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun r h => ⟨fun c => ⟨(h.1 c (0 : Fin 6)).trans (finalA_in m ρ c (0 : Fin 6) rfl), (h.1 c (1 : Fin 6)).trans (finalA_in m ρ c (1 : Fin 6) rfl),
    (h.1 c (2 : Fin 6)).trans (finalA_in m ρ c (2 : Fin 6) rfl), (h.1 c (3 : Fin 6)).trans (finalA_in m ρ c (3 : Fin 6) rfl),
    (h.1 c (4 : Fin 6)).trans (finalA_in m ρ c (4 : Fin 6) rfl)⟩, h.2⟩) (run_main (F := F) m ρ)

/-- The two programs have one text: their body tables agree, row by row. -/
theorem defs₀_eq : Cert.Kernel.defs₀ (F := Bits) = Cert.KernelIdeal.defs₀ (F := Bits) := by
  funext p ℓ a
  cases p with
  | tc =>
    obtain ⟨ℓ, hℓ⟩ := ℓ
    cases ℓ with
    | zero =>
      obtain ⟨t, s⟩ := a
      rfl
    | succ n => exact absurd hℓ (Nat.not_lt.2 (Nat.le_add_left _ _))
  | scScalar _ => rfl
  | scVector _ _ => rfl
theorem defs_eq : Cert.Kernel.defs (F := Bits) = Cert.KernelIdeal.defs (F := Bits) :=
  congrArg (Pipeline.defs (Cert.KernelIdeal.pcfgs (F := Bits))) defs₀_eq

theorem frame_kernel : Cert.quiescent_Kernel := fun m ρ _ => by
  rw [defs_eq]
  exact run_frame (F := Bits) m ρ
theorem frame_ideal : Cert.quiescent_KernelIdeal := fun m ρ _ => run_frame (F := Ideal) m ρ

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

instance preFacts : Cert.Pre_finite_KernelIdeal.Facts where
  bcast_S_S512x1024 := by decide
  reducesTo_S512x1024_S_d0_1 := by decide
  h_S_ := by decide
  bcast_S_S1024x1024 := by decide
  reducesTo_S1024x1024_S_d0_1 := by decide
  bcast_S_S2048x1024 := by decide
  reducesTo_S2048x1024_S_d0_1 := by decide

instance preFactsReference : Cert.Pre_finite_ReferenceIdeal.Facts where
  bcast_S_S8192x1024 := by decide
  reducesTo_S8192x1024_S_d0_1 := by decide
  h_S_ := by decide
  bcast_S_S1024x16384 := by decide
  reducesTo_S1024x16384_S_d0_1 := by decide
  bcast_S_S2048x16384 := by decide
  reducesTo_S2048x16384_S_d0_1 := by decide

theorem frame_ideal_finite : Cert.quiescent_KernelIdeal_pre_finite_KernelIdeal := fun m ρ _ => run_frame (F := Ideal) m ρ
theorem frame_reference_finite : Cert.quiescent_ReferenceIdeal_pre_finite_ReferenceIdeal := fun m ρ _ => frame_reference m ρ trivial

end Cert.RingProof

end
-- ==== Proof.Value.lean ====
/-
  One device's share of the answer: the eight heads whose columns it holds, attended by a chunk of rows and put through
  its rows of the output weights.
-/
module

public import proofs.«01_k».proof.Proof.Trip
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.RingProof

open Cert.KernelIdeal Cert.KernelIdeal.Gen

open Idealize.ShloMosaic
open Idealize.ShloMosaic.TcCoe
open Idealize.SL.Sem

variable {F : FTy → Type} [FloatOps F]

/-! ## The kernel's own operations, said once -/

/-- The exponentials of one head's scaled scores. -/
def expOf (o : ℕ) (ho : Shape.Slices S512x1024 ![0, o] S512x128) (q : Vec F S512x1024 .bf16) (k : Vec F S2048x128 .bf16) : Vec F S512x2048 .f32 :=
  exp (mulf (matmul dot_S512x128_S2048x128_S512x2048_1_1_0_0_n_n none (extractStridedSlice S512x128 ![0, o] q ho)
    (shapeCast S2048x128 k shapeCasts_S2048x128_S2048x128) (constant S512x2048 .f32 0x00000000#32)) (broadcast S512x2048 (Scalar.ofBits .f32 0x3DB504F3#32)))

/-- One head: the exponentials over the values, divided by the exponentials' sum. -/
def headOf (o : ℕ) (ho : Shape.Slices S512x1024 ![0, o] S512x128) (q : Vec F S512x1024 .bf16) (k v : Vec F S2048x128 .bf16) : Vec F S512x128 .bf16 :=
  truncf .bf16 (divf (matmul dot_S512x2048_S2048x128_S512x128_1_0_0_1_n_n none (truncf .bf16 (expOf o ho q k) bitsLt_bf16_f32)
      (shapeCast S2048x128 v shapeCasts_S2048x128_S2048x128) (constant S512x128 .f32 0x00000000#32))
    (broadcastTo S512x128 (shapeCast S512x1 (multiReduction .add [1] S512 (expOf o ho q k) 0x00000000#32 reduces_S512x2048_S512 (.inl rfl) rfl) shapeCasts_S512_S512x1)
      broadcasts_S512x1_S512x128)) bitsLt_bf16_f32

theorem slices_head (h : Fin 8) : Shape.Slices S512x1024 ![0, 128 * h.val] S512x128 := by
  fin_cases h <;> decide

theorem inb_head (h : Fin 8) : ∀ a, (![0, 128 * h.val] : Fin 2 → ℕ) a + S2048x128.size a ≤ S2048x1024.size a := by
  fin_cases h <;> decide

/-- The eight heads of a device, side by side. -/
def heads (s : Stg F) (q : Vec F S512x1024 .bf16) : Vec F S512x1024 .bf16 :=
  concatenate S512x1024 1 (List.ofFn fun h : Fin 8 => (⟨S512x128, headOf (128 * h.val) (slices_head h) q (ldK (128 * h.val) (inb_head h) s.kk) (ldV (128 * h.val) (inb_head h) s.vv)⟩ : (s : Shape) × (s.Idx → F .bf16)))
    concatenates_S512x128_S512x128_S512x128_S512x128_S512x128_S512x128_S512x128_S512x128_S512x1024_d1

/-- A device's share of the answer for a chunk. -/
def share (s : Stg F) (X : Vec F S1x512x1024 .bf16) : Vec F S512x1024 .f32 :=
  matmul dot_S512x1024_S1024x1024_S512x1024_1_0_0_1_n_n none (heads s (k0_pay18 X (ldQ s.wq)))
    (shapeCast S1024x1024 (ldO s.wo) shapeCasts_S1024x1024_S1024x1024) (constant S512x1024 .f32 0x00000000#32)

theorem firstA_eq (s : Stg F) (X : Vec F S1x512x1024 .bf16) :
    firstA s X = shapeCast S1x512x1024 (share s X) shapeCasts_S512x1024_S1x512x1024 := rfl

theorem nextA_eq (s : Stg F) (X : Vec F S1x512x1024 .bf16) (A : Vec F S1x512x1024 .f32) :
    nextA s X A = shapeCast S1x512x1024 (addf (shapeCast S512x1024 A shapeCasts_S1x512x1024_S512x1024) (share s X)) shapeCasts_S512x1024_S1x512x1024 := rfl

end Cert.RingProof

end
-- ==== Proof.Reading.lean ====
/-
  A device's share of the answer, read at one entry over the extended reals.
-/
module

public import proofs.«01_k».proof.Proof.Value

@[expose] public section

noncomputable section

namespace Cert.RingProof

open Cert.KernelIdeal Cert.KernelIdeal.Gen

open Idealize.ShloMosaic Idealize.ShloMosaic.ValueIdx
open Idealize.ShloMosaic.TcCoe
open Idealize.SL.Sem

/-! ## Attention at one entry -/

/-- The factor the scores are multiplied by. -/
def scl : EReal := Ideal.ofBits .f32 0x3DB504F3#32

/-- A score: a query against a key, scaled. -/
def score (q k : Fin 128 → EReal) : EReal := (∑ d, q d * k d) * scl

/-- The exponentials of the scores over the values, divided by the exponentials' sum. -/
def attend (s v : Fin 2048 → EReal) : EReal := Ideal.div (∑ n, Ideal.exp (s n) * v n) (∑ n, Ideal.exp (s n))

/-! ## The kernel's operations at one entry -/

theorem expOf_apply (o : ℕ) (ho : Shape.Slices S512x1024 ![0, o] S512x128) (q : Vec Ideal S512x1024 .bf16) (k : Vec Ideal S2048x128 .bf16)
    (r : Fin 512) (n : Fin 2048) (col : Fin 128 → Fin 1024) (hc : ∀ d, (col d).val = o + d.val) :
    expOf (F := Ideal) o ho q k (ix2 r n) = Ideal.exp (score (fun d => q (ix2 r (col d))) (fun d => k (ix2 n d))) := by
  unfold expOf score scl
  show Ideal.exp (_ * _) = _
  rw [show dot_S512x128_S2048x128_S512x2048_1_1_0_0_n_n = DotDims.transposedRhs 512 128 2048 from rfl, shapeCast_self]
  refine congrArg Ideal.exp (congrArg₂ (· * ·) ?_ rfl)
  refine (Ideal.matmul_transposedRhs_apply none _ _ _ r n).trans ?_
  rw [constant_apply, Ideal.ofBits_zero_f32, zero_add]
  exact Finset.sum_congr rfl fun d _ => congrArg (· * _) (slice2_axis1_apply o q ho r d (col d) (hc d))

theorem rowSum_apply (P : FVec Ideal S512x2048 .f32) (r : Fin 512) :
    multiReduction .add [1] S512 P 0x00000000#32 reduces_S512x2048_S512 (.inl rfl) rfl (ix1 r) = ∑ n, P (ix2 r n) := by
  refine (Ideal.multiReduction_add_single P _ _ _ _ _).trans (Finset.sum_congr rfl fun n _ => congrArg P ?_)
  funext a; apply Fin.ext
  match a with
  | ⟨0, _⟩ => rfl
  | ⟨1, _⟩ => rfl

theorem headOf_apply (o : ℕ) (ho : Shape.Slices S512x1024 ![0, o] S512x128) (q : Vec Ideal S512x1024 .bf16) (k v : Vec Ideal S2048x128 .bf16)
    (r : Fin 512) (e : Fin 128) (col : Fin 128 → Fin 1024) (hc : ∀ d, (col d).val = o + d.val) :
    headOf (F := Ideal) o ho q k v (ix2 r e)
      = attend (fun n => score (fun d => q (ix2 r (col d))) (fun d => k (ix2 n d))) (fun n => v (ix2 n e)) := by
  unfold headOf attend
  rw [truncf_apply, divf_apply, shapeCast_self]
  refine congrArg₂ Ideal.div ?_ ?_
  · rw [show dot_S512x2048_S2048x128_S512x128_1_0_0_1_n_n = DotDims.plain 512 2048 128 from rfl]
    refine (Ideal.matmul_plain_apply none _ _ _ r e).trans ?_
    rw [constant_apply, Ideal.ofBits_zero_f32, zero_add]
    exact Finset.sum_congr rfl fun n _ => congrArg (· * _) (expOf_apply o ho q k r n col hc)
  · rw [broadcastTo_apply _ broadcasts_S512x1_S512x128 (ix2 r e) (ix2 r (0 : Fin 1)) (fun ax => by
        match ax with
        | ⟨0, _⟩ => rfl
        | ⟨1, _⟩ => rfl), shapeCast_a_a1_apply, rowSum_apply]
    exact Finset.sum_congr rfl fun n _ => expOf_apply o ho q k r n col hc

/-- The column of the device's weights and caches where head `j / 128` has its coordinate `d`. -/
def headCol (j : Fin 1024) (d : Fin 128) : Fin 1024 := ⟨128 * (j.val / 128) + d.val, by have := j.isLt; have := d.isLt; omega⟩

theorem ldX_eq (f : (cc0_stg0_0 : Ref sig .tc).ty.Contents (Elt Ideal)) : ldX (F := Ideal) f = f :=
  Memref.read_access_unit_zero (Elt Ideal) cc0_stg0_0 (off := ![0, 0]) (funext fun a => match a with | ⟨0, _⟩ => rfl | ⟨1, _⟩ => rfl) _ f
theorem ldQ_eq (f : (cc0_stg1_0 : Ref sig .tc).ty.Contents (Elt Ideal)) : ldQ (F := Ideal) f = f :=
  Memref.read_access_unit_zero (Elt Ideal) cc0_stg1_0 (off := ![0, 0]) (funext fun a => match a with | ⟨0, _⟩ => rfl | ⟨1, _⟩ => rfl) _ f
theorem ldO_eq (f : (cc0_stg2_0 : Ref sig .tc).ty.Contents (Elt Ideal)) : ldO (F := Ideal) f = f :=
  Memref.read_access_unit_zero (Elt Ideal) cc0_stg2_0 (off := ![0, 0]) (funext fun a => match a with | ⟨0, _⟩ => rfl | ⟨1, _⟩ => rfl) _ f
theorem ldK_apply (o : ℕ) (h) (f : S2048x1024.Idx → EReal) (n : Fin 2048) (d : Fin 128) (k : Fin 1024) (hk : k.val = o + d.val) :
    ldK (F := Ideal) o h f (ix2 n d) = f (ix2 n k) := by
  refine congrArg f (funext fun a => Fin.ext ?_)
  match a with
  | ⟨0, _⟩ => show 0 + 1 * n.val = n.val; omega
  | ⟨1, _⟩ => show o + 1 * d.val = k.val; omega
theorem ldV_apply (o : ℕ) (h) (f : S2048x1024.Idx → EReal) (n : Fin 2048) (d : Fin 128) (k : Fin 1024) (hk : k.val = o + d.val) :
    ldV (F := Ideal) o h f (ix2 n d) = f (ix2 n k) := by
  refine congrArg f (funext fun a => Fin.ext ?_)
  match a with
  | ⟨0, _⟩ => show 0 + 1 * n.val = n.val; omega
  | ⟨1, _⟩ => show o + 1 * d.val = k.val; omega

theorem heads_apply (s : Stg Ideal) (q : Vec Ideal S512x1024 .bf16) (r : Fin 512) (j : Fin 1024) :
    heads (F := Ideal) s q (ix2 r j)
      = attend (fun n => score (fun d => q (ix2 r (headCol j d))) (fun d => s.kk (ix2 n (headCol j d)))) (fun n => s.vv (ix2 n j)) := by
  have hj := j.isLt
  let h : Fin 8 := ⟨j.val / 128, by omega⟩
  let e : Fin 128 := ⟨j.val % 128, Nat.mod_lt _ (by decide)⟩
  refine (concatenate_ofFn_apply (t := S512x1024) (s₁ := S512x128) (1 : Fin 2) (fun h : Fin 8 => headOf (F := Ideal) (128 * h.val) (slices_head h) q (ldK (128 * h.val) (inb_head h) s.kk) (ldV (128 * h.val) (inb_head h) s.vv))
    _ rfl 128 rfl (ix2 r j) h rfl (ix2 r e) rfl (fun b hb => ?_)).trans ?_
  · match b with
    | ⟨0, _⟩ => rfl
    | ⟨1, _⟩ => exact absurd rfl hb
  · rw [headOf_apply (128 * h.val) (slices_head h) q _ _ r e (headCol j) (fun d => rfl)]
    refine congrArg₂ attend (funext fun n => congrArg (score _) (funext fun d => ?_)) (funext fun n => ?_)
    · exact ldK_apply _ _ s.kk n d (headCol j d) rfl
    · exact ldV_apply _ _ s.vv n e j (by show j.val = 128 * (j.val / 128) + j.val % 128; omega)

theorem query_apply (X : Vec Ideal S1x512x1024 .bf16) (W : Vec Ideal S1024x1024 .bf16) (r : Fin 512) (j : Fin 1024) :
    k0_pay18 (F := Ideal) X W (ix2 r j) = ∑ k, X (ix3 (0 : Fin 1) r k) * W (ix2 k j) := by
  unfold k0_pay18
  simp only [truncf_apply, shapeCast_self]
  rw [show dot_S512x1024_S1024x1024_S512x1024_1_0_0_1_n_n = DotDims.plain 512 1024 1024 from rfl]
  refine (Ideal.matmul_plain_apply none _ _ _ r j).trans ?_
  rw [constant_apply, Ideal.ofBits_zero_f32, zero_add]
  exact Finset.sum_congr rfl fun k _ => congrArg (· * _) (shapeCast_1ab_ab_apply X _ r k)

/-- The share that weights' columns `wq` and rows `wo` and heads' keys and values make of one row `x`, at column `l`. -/
def shareAt (x : Fin 1024 → EReal) (wq wo : Fin 1024 → Fin 1024 → EReal) (kk vv : Fin 2048 → Fin 1024 → EReal) (l : Fin 1024) : EReal :=
  ∑ j : Fin 1024, attend (fun n => score (fun e => ∑ k, x k * wq k (headCol j e)) (fun e => kk n (headCol j e))) (fun n => vv n j) * wo j l

/-- A device's share of the answer at row `r` of a chunk and column `l`. -/
theorem share_apply (s : Stg Ideal) (X : Vec Ideal S1x512x1024 .bf16) (r : Fin 512) (l : Fin 1024) :
    share (F := Ideal) s X (ix2 r l)
      = shareAt (fun k => X (ix3 (0 : Fin 1) r k)) (fun k j => s.wq (ix2 k j)) (fun j e => s.wo (ix2 j e)) (fun n j => s.kk (ix2 n j)) (fun n j => s.vv (ix2 n j)) l := by
  unfold share
  rw [show dot_S512x1024_S1024x1024_S512x1024_1_0_0_1_n_n = DotDims.plain 512 1024 1024 from rfl, shapeCast_self, ldO_eq, ldQ_eq]
  refine (Ideal.matmul_plain_apply none _ _ _ r l).trans ?_
  rw [constant_apply, Ideal.ofBits_zero_f32, zero_add]
  refine Finset.sum_congr rfl fun j _ => congrArg (· * _) ?_
  rw [heads_apply]
  exact congrArg (attend · _) (funext fun n => congrArg (score · _) (funext fun d => query_apply X s.wq r (headCol j d)))

/-! ## The sum over the ring -/

theorem chunk_apply (s : Stg Ideal) (r : Fin 512) (k : Fin 1024) : chunk (F := Ideal) s (ix3 (0 : Fin 1) r k) = s.x (ix2 r k) := by
  unfold chunk k0_pay17
  rw [ldX_eq, shapeCast_self]
  exact shapeCast_ab_1ab_apply s.x _ 0 r k

theorem accOf_apply (S : Dev nD → Stg Ideal) (t : ℕ) (c : Dev nD) (r : Fin 512) (l : Fin 1024) :
    accOf (F := Ideal) S t c (ix3 (0 : Fin 1) r l) = ∑ u ∈ Finset.range (t + 1), share (F := Ideal) (S (back u c)) (chunk (S (back t c))) (ix2 r l) := by
  induction t generalizing c with
  | zero =>
    rw [Finset.sum_range_one, back_zero]
    exact (congrFun (firstA_eq (F := Ideal) _ _) _).trans (shapeCast_ab_1ab_apply _ _ 0 r l)
  | succ t ih =>
    rw [Finset.sum_range_succ' _ (t + 1), back_zero]
    simp only [back_succ]
    rw [← ih (prv c)]
    refine (congrFun (nextA_eq (F := Ideal) (S c) (chunk (S (back (t + 1) c))) (accOf S t (prv c))) _).trans ((shapeCast_ab_1ab_apply _ _ 0 r l).trans ?_)
    rw [addf_apply, shapeCast_1ab_ab_apply, back_succ]

/-- Over a whole turn of the ring every device gives its share. -/
theorem turn (f : Dev nD → EReal) (c : Dev nD) : ∑ u ∈ Finset.range 16, f (back u c) = ∑ d : Fin 16, f d := by
  rw [← Fin.sum_univ_eq_sum_range (fun u => f (back u c)) 16]
  refine Fintype.sum_bijective (fun u : Fin 16 => (back u.val c : Fin 16)) ((Finite.injective_iff_bijective).mp fun u v h => ?_) _ _ fun _ => rfl
  have h1 : (back u.val c).val = (back v.val c).val := congrArg Fin.val h
  rw [back_val, back_val] at h1
  have := u.isLt; have := v.isLt
  exact Fin.ext (by omega)

/-- The answer of device `c` at row `r` and column `l`. -/
theorem answer_apply (S : Dev nD → Stg Ideal) (c : Dev nD) (r : Fin 512) (l : Fin 1024) :
    k0_pay34 (F := Ideal) (accOf S 15 (prv c)) (ix2 r l)
      = ∑ d : Fin 16, shareAt (fun k => (S c).x (ix2 r k)) (fun k j => (S d).wq (ix2 k j)) (fun j e => (S d).wo (ix2 j e))
          (fun n j => (S d).kk (ix2 n j)) (fun n j => (S d).vv (ix2 n j)) l := by
  unfold k0_pay34
  rw [shapeCast_1ab_ab_apply, accOf_apply, show back 15 (prv c) = c from by rw [← back_succ, back_sixteen],
    turn (fun d => share (F := Ideal) (S d) (chunk (S c)) (ix2 r l))]
  refine Finset.sum_congr rfl fun d _ => (share_apply _ _ r l).trans ?_
  simp only [chunk_apply]

end Cert.RingProof

end
-- ==== Proof.Plain.lean ====
/-
  The reference's answer, read at one entry over the extended reals.
-/
module

public import proofs.«01_k».proof.Proof.Reading
public import proofs.«01_k».proof.Proof.Gen.ReferenceIdeal.Run
public import Idealize.ShloMosaic.Lib.IdealHost

@[expose] public section

noncomputable section

namespace Cert.RingProof

open Cert.ReferenceIdeal Cert.ReferenceIdeal.Gen

open Idealize.ShloMosaic Idealize.ShloMosaic.ValueIdx
open Idealize.ShloMosaic.TcCoe
open Idealize.SL.Sem

variable {F : FTy → Type} [FloatOps F]

/-! ## The reference's own operations, said once -/

/-- The scaled scores of every head, query and key. -/
def refS (x : Vec F S8192x1024 .bf16) (wq : Vec F S1024x16384 .bf16) (kk : Vec F S2048x16384 .bf16) : Vec F S128x8192x2048 .f32 :=
  mulf (Host.dotGeneral dot_S8192x128x128_S2048x128x128_S128x8192x2048_2_2_0_0_1_1 none
      (shapeCast _ (Host.dotGeneral dot_S8192x1024_S1024x16384_S8192x16384_1_0_0_1_n_n none (extf .f32 x bitsLt_bf16_f32) (extf .f32 wq bitsLt_bf16_f32)) shapeCasts_S8192x16384_S8192x128x128)
      (shapeCast _ (extf .f32 kk bitsLt_bf16_f32) shapeCasts_S2048x16384_S2048x128x128))
    (broadcastInDim S128x8192x2048 ![] bcast_S_S128x8192x2048 (constant S_ .f32 0x3DB504F3#32))

/-- Their exponentials, each row shifted by its greatest score. -/
def refP (S : Vec F S128x8192x2048 .f32) : Vec F S128x8192x2048 .f32 :=
  Host.exp (subf S (broadcastInDim S128x8192x2048 ![0, 1, 2] bcast_S128x8192x1_S128x8192x2048_0_1_2 (broadcastInDim S128x8192x1 ![0, 1] bcast_S128x8192_S128x8192x1_0_1
    (Host.reduce FloatOps.maximumf S (constant S_ .f32 0xFF800000#32) reducesTo_S128x8192x2048_S128x8192_d2 h_S_))))

/-- The heads' results. -/
def refO (P : Vec F S128x8192x2048 .f32) (vv : Vec F S2048x16384 .bf16) : Vec F S128x8192x128 .f32 :=
  Host.divf (Host.dotGeneral dot_S128x8192x2048_S2048x128x128_S128x8192x128_2_0_1_2_0_1 none P (shapeCast _ (extf .f32 vv bitsLt_bf16_f32) shapeCasts_S2048x16384_S2048x128x128))
    (broadcastInDim S128x8192x128 ![0, 1, 2] bcast_S128x8192x1_S128x8192x128_0_1_2 (broadcastInDim S128x8192x1 ![0, 1] bcast_S128x8192_S128x8192x1_0_1
      (Host.reduceAdd P (constant S_ .f32 0x00000000#32) reducesTo_S128x8192x2048_S128x8192_d2 h_S_)))

/-- The reference's answer. -/
def refAns (x : Vec F S8192x1024 .bf16) (wq : Vec F S1024x16384 .bf16) (wo : Vec F S16384x1024 .bf16) (kk vv : Vec F S2048x16384 .bf16) : Vec F S8192x1024 .f32 :=
  Host.dotGeneral dot_S8192x16384_S16384x1024_S8192x1024_1_0_0_1_n_n none
    (shapeCast _ (transpose S8192x128x128 [1, 0, 2] (refO (refP (refS x wq kk)) vv) transposes_S128x8192x128_S8192x128x128_1_0_2) shapeCasts_S8192x128x128_S8192x16384)
    (extf .f32 wo bitsLt_bf16_f32)

/-- The reference ends with its answer, its arguments as they were. -/
theorem run_reference (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = refAns (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

/-! ## The reference's operations at one entry -/

/-- The column of the weights and caches where head `h` has its coordinate `d`. -/
def wideCol (h d : Fin 128) : Fin 16384 := ⟨128 * h.val + d.val, by have := h.isLt; have := d.isLt; omega⟩

/-- A row of the greatest score's shift: the softmax's weights over the values. -/
def softAttend (s v : Fin 2048 → EReal) : EReal :=
  Ideal.div (∑ n, Ideal.exp (s n - (Finset.univ : Finset (Fin 2048)).fold max (⊥ : EReal) s) * v n)
    (∑ n, Ideal.exp (s n - (Finset.univ : Finset (Fin 2048)).fold max (⊥ : EReal) s))

theorem split_apply {N : ℕ} (x : (⟨2, ![N, 16384]⟩ : Shape).Idx → EReal) (hs : (⟨2, ![N, 16384]⟩ : Shape).ShapeCasts ⟨3, ![N, 128, 128]⟩)
    (i : Fin N) (h d : Fin 128) : shapeCast ⟨3, ![N, 128, 128]⟩ x hs (ix3 i h d) = x (ix2 i (wideCol h d)) :=
  shapeCast_apply x hs _ _ (by
    rw [Shape.rowMajor_val_three, Shape.rowMajor_val_two]
    show i.val * 16384 + (128 * h.val + d.val) = (i.val * 128 + h.val) * 128 + d.val
    omega)

theorem join_apply {N : ℕ} (x : (⟨3, ![N, 128, 128]⟩ : Shape).Idx → EReal) (hs : (⟨3, ![N, 128, 128]⟩ : Shape).ShapeCasts ⟨2, ![N, 16384]⟩)
    (i : Fin N) (h d : Fin 128) : shapeCast ⟨2, ![N, 16384]⟩ x hs (ix2 i (wideCol h d)) = x (ix3 i h d) :=
  shapeCast_apply x hs _ _ (by
    rw [Shape.rowMajor_val_three, Shape.rowMajor_val_two]
    show (i.val * 128 + h.val) * 128 + d.val = i.val * 16384 + (128 * h.val + d.val)
    omega)

theorem plainDot_apply {M K N : ℕ} {φ₁ φ₂ : FTy} (lhs : FVec Ideal ⟨2, ![M, K]⟩ φ₁) (rhs : FVec Ideal ⟨2, ![K, N]⟩ φ₂) (r : Fin M) (c : Fin N) :
    Host.dotGeneral (F := Ideal) (DotDims.plain M K N) none lhs rhs (ix2 r c) = ∑ k : Fin K, lhs (ix2 r k) * rhs (ix2 k c) := by
  simp only [Host.dotGeneral]
  rw [Ideal.dotGeneral_apply, ← Ideal.matmul_constant_zero_apply (DotDims.plain M K N) none lhs rhs (ix2 r c)]
  refine (Ideal.matmul_plain_apply none _ _ _ r c).trans ?_
  rw [constant_apply, Ideal.ofBits_zero_f32, zero_add]

theorem scoresDot_apply (Q : FVec Ideal S8192x128x128 .f32) (K : FVec Ideal S2048x128x128 .f32) (h : Fin 128) (i : Fin 8192) (n : Fin 2048) :
    Host.dotGeneral (F := Ideal) dot_S8192x128x128_S2048x128x128_S128x8192x2048_2_2_0_0_1_1 none Q K (ix3 h i n) = ∑ d : Fin 128, Q (ix3 i h d) * K (ix3 n h d) := by
  simp only [Host.dotGeneral]
  have hk := contrEquiv1_symm_val dot_S8192x128x128_S2048x128x128_S128x8192x2048_2_2_0_0_1_1 128 rfl rfl
  rw [Ideal.dotGeneral_apply, ← Equiv.sum_comp (contrEquiv1 dot_S8192x128x128_S2048x128x128_S128x8192x2048_2_2_0_0_1_1 128 rfl rfl).symm]
  refine Finset.sum_congr rfl fun d _ => congrArg₂ (· * ·) (congrArg Q ?_) (congrArg K ?_)
  · funext a; apply Fin.ext
    match a with
    | ⟨0, _⟩ => rfl
    | ⟨1, _⟩ => rfl
    | ⟨2, _⟩ => exact hk d
  · funext a; apply Fin.ext
    match a with
    | ⟨0, _⟩ => rfl
    | ⟨1, _⟩ => rfl
    | ⟨2, _⟩ => exact hk d

theorem valuesDot_apply (P : FVec Ideal S128x8192x2048 .f32) (V : FVec Ideal S2048x128x128 .f32) (h : Fin 128) (i : Fin 8192) (d : Fin 128) :
    Host.dotGeneral (F := Ideal) dot_S128x8192x2048_S2048x128x128_S128x8192x128_2_0_1_2_0_1 none P V (ix3 h i d) = ∑ n : Fin 2048, P (ix3 h i n) * V (ix3 n h d) := by
  simp only [Host.dotGeneral]
  have hk := contrEquiv1_symm_val dot_S128x8192x2048_S2048x128x128_S128x8192x128_2_0_1_2_0_1 2048 rfl rfl
  rw [Ideal.dotGeneral_apply, ← Equiv.sum_comp (contrEquiv1 dot_S128x8192x2048_S2048x128x128_S128x8192x128_2_0_1_2_0_1 2048 rfl rfl).symm]
  refine Finset.sum_congr rfl fun n _ => congrArg₂ (· * ·) (congrArg P ?_) (congrArg V ?_)
  · funext a; apply Fin.ext
    match a with
    | ⟨0, _⟩ => rfl
    | ⟨1, _⟩ => rfl
    | ⟨2, _⟩ => exact hk n
  · funext a; apply Fin.ext
    match a with
    | ⟨0, _⟩ => exact hk n
    | ⟨1, _⟩ => rfl
    | ⟨2, _⟩ => rfl

theorem refS_apply (x : Vec Ideal S8192x1024 .bf16) (wq : Vec Ideal S1024x16384 .bf16) (kk : Vec Ideal S2048x16384 .bf16) (h : Fin 128) (i : Fin 8192) (n : Fin 2048) :
    refS (F := Ideal) x wq kk (ix3 h i n) = score (fun d => ∑ k, x (ix2 i k) * wq (ix2 k (wideCol h d))) (fun d => kk (ix2 n (wideCol h d))) := by
  unfold refS score
  rw [mulf_apply, broadcastInDim_scalar_apply, constant_apply, scoresDot_apply]
  refine congrArg (· * scl) (Finset.sum_congr rfl fun d _ => congrArg₂ (· * ·) ?_ ?_)
  · rw [split_apply, show dot_S8192x1024_S1024x16384_S8192x16384_1_0_0_1_n_n = DotDims.plain 8192 1024 16384 from rfl, plainDot_apply]
    rfl
  · rw [split_apply]; rfl

theorem reduces_scores : S128x8192x2048.Reduces [2] S128x8192 := by decide

theorem lift_scores (h : Fin 128) (i : Fin 8192) (n : Fin 2048) : reduces_scores.lift (ix2 h i) n = ix3 h i n := by
  funext a; apply Fin.ext
  match a with
  | ⟨0, _⟩ => rfl
  | ⟨1, _⟩ => rfl
  | ⟨2, _⟩ => rfl

theorem ofBits_bot : Ideal.ofBits .f32 0xFF800000#32 = (⊥ : EReal) := by simp [Ideal.ofBits, Ideal.ieee]

theorem rows_apply {M : ℕ} (Y : FVec Ideal S128x8192 .f32) (hb : S128x8192x1.BroadcastsInDim ⟨3, ![128, 8192, M]⟩ ![0, 1, 2]) (h : Fin 128) (i : Fin 8192) (n : Fin M) :
    broadcastInDim ⟨3, ![128, 8192, M]⟩ ![0, 1, 2] hb (broadcastInDim S128x8192x1 ![0, 1] bcast_S128x8192_S128x8192x1_0_1 Y) (ix3 h i n) = Y (ix2 h i) := by
  rw [broadcastInDim_apply _ hb _ (ix3 h i n) (ix3 h i (0 : Fin 1)) (fun a => by
      match a with
      | ⟨0, _⟩ => rfl
      | ⟨1, _⟩ => rfl
      | ⟨2, _⟩ => rfl),
    broadcastInDim_apply _ bcast_S128x8192_S128x8192x1_0_1 Y (ix3 h i (0 : Fin 1)) (ix2 h i) (fun a => by
      match a with
      | ⟨0, _⟩ => rfl
      | ⟨1, _⟩ => rfl)]

theorem refP_apply (S : Vec Ideal S128x8192x2048 .f32) (h : Fin 128) (i : Fin 8192) (n : Fin 2048) :
    refP (F := Ideal) S (ix3 h i n) = Ideal.exp (S (ix3 h i n) - (Finset.univ : Finset (Fin 2048)).fold max (⊥ : EReal) (fun n => S (ix3 h i n))) := by
  have e : Host.reduce (FloatOps.maximumf (F := Ideal) (φ := .f32)) S (constant S_ .f32 0xFF800000#32) reducesTo_S128x8192x2048_S128x8192_d2 h_S_ (ix2 h i)
      = (Finset.univ : Finset (Fin 2048)).fold max (⊥ : EReal) (fun n => S (ix3 h i n)) := by
    rw [Host.reduce_eq_fold_single (FloatOps.maximumf (F := Ideal) (φ := .f32)) S _ _ reduces_scores h_S_ (ix2 h i), constant_apply, ofBits_bot]
    exact congrArg (Finset.fold max (⊥ : EReal) · Finset.univ) (funext fun n => congrArg S (lift_scores h i n))
  rw [← e]
  exact congrArg Ideal.exp (congrArg (S (ix3 h i n) - ·) (rows_apply _ bcast_S128x8192x1_S128x8192x2048_0_1_2 h i n))

theorem refO_apply (P : Vec Ideal S128x8192x2048 .f32) (vv : Vec Ideal S2048x16384 .bf16) (h : Fin 128) (i : Fin 8192) (d : Fin 128) :
    refO (F := Ideal) P vv (ix3 h i d) = Ideal.div (∑ n, P (ix3 h i n) * vv (ix2 n (wideCol h d))) (∑ n, P (ix3 h i n)) := by
  unfold refO
  rw [hostDivf_apply, valuesDot_apply]
  refine congrArg₂ Ideal.div (Finset.sum_congr rfl fun n _ => congrArg (P (ix3 h i n) * ·) ?_) ?_
  · rw [split_apply]; rfl
  · refine (rows_apply _ _ h i d).trans ?_
    rw [hostReduceAdd_apply, Ideal.hostReduceAdd_single _ reduces_scores, constant_apply, Ideal.ofBits_zero_f32, zero_add]
    exact Finset.sum_congr rfl fun n _ => congrArg P (lift_scores h i n)

/-- The reference's answer at row `i` and column `l`. -/
theorem refAns_apply (x : Vec Ideal S8192x1024 .bf16) (wq : Vec Ideal S1024x16384 .bf16) (wo : Vec Ideal S16384x1024 .bf16) (kk vv : Vec Ideal S2048x16384 .bf16)
    (i : Fin 8192) (l : Fin 1024) :
    refAns (F := Ideal) x wq wo kk vv (ix2 i l)
      = ∑ J : Fin 16384, softAttend (fun n => score (fun e => ∑ k, x (ix2 i k) * wq (ix2 k (wideCol ⟨J.val / 128, by have := J.isLt; omega⟩ e)))
          (fun e => kk (ix2 n (wideCol ⟨J.val / 128, by have := J.isLt; omega⟩ e)))) (fun n => vv (ix2 n J)) * wo (ix2 J l) := by
  unfold refAns
  rw [show dot_S8192x16384_S16384x1024_S8192x1024_1_0_0_1_n_n = DotDims.plain 8192 16384 1024 from rfl, plainDot_apply]
  refine Finset.sum_congr rfl fun J _ => congrArg (· * wo (ix2 J l)) ?_
  have hJ := J.isLt
  let h : Fin 128 := ⟨J.val / 128, by omega⟩
  let d : Fin 128 := ⟨J.val % 128, Nat.mod_lt _ (by decide)⟩
  have e : J = wideCol h d := Fin.ext (show J.val = 128 * (J.val / 128) + J.val % 128 by omega)
  show _ = softAttend (fun n => score (fun e => ∑ k, x (ix2 i k) * wq (ix2 k (wideCol h e))) (fun e => kk (ix2 n (wideCol h e)))) (fun n => vv (ix2 n J))
  conv_lhs => rw [e]
  rw [join_apply, transpose_apply _ _ _ (ix3 i h d) (ix3 h i d) (fun b => by
      match b with
      | ⟨0, _⟩ => rfl
      | ⟨1, _⟩ => rfl
      | ⟨2, _⟩ => rfl), refO_apply]
  unfold softAttend
  simp only [refP_apply, refS_apply]
  rw [← e]

end Cert.RingProof

end
-- ==== Proof.Shift.lean ====
/-
  Shifting a row of finite scores by its greatest leaves the softmax's weights as they are.
-/
module

public import proofs.«01_k».proof.Proof.Plain

@[expose] public section

noncomputable section

namespace Cert.RingProof

open Idealize.ShloMosaic

/-- A positive real factor goes out of a sum, whatever the summands. -/
theorem sum_scale {ι : Type} (s : Finset ι) (c : ℝ) (hc : 0 < c) (f : ι → EReal) : ∑ n ∈ s, (c : EReal) * f n = c * ∑ n ∈ s, f n := by
  classical
  induction s using Finset.induction_on with
  | empty => simp
  | insert a s ha ih =>
    rw [Finset.sum_insert ha, Finset.sum_insert ha, ih,
      EReal.left_distrib_of_nonneg_of_ne_top (EReal.coe_nonneg.mpr hc.le) (EReal.coe_ne_top c)]

theorem sum_real {ι : Type} (s : Finset ι) (f : ι → ℝ) : ∑ n ∈ s, (f n : EReal) = ((∑ n ∈ s, f n : ℝ) : EReal) := by
  classical
  induction s using Finset.induction_on with
  | empty => simp
  | insert a s ha ih => rw [Finset.sum_insert ha, Finset.sum_insert ha, ih, EReal.coe_add]

theorem div_scale (c L : ℝ) (hc : 0 < c) (hL : 0 < L) (A : EReal) : Ideal.div (c * A) (c * L) = Ideal.div A L := by
  have h0 : ((c * L : ℝ) : EReal) ≠ 0 := by exact_mod_cast (mul_pos hc hL).ne'
  have h1 : (L : EReal) ≠ 0 := by exact_mod_cast hL.ne'
  unfold Ideal.div
  rw [← EReal.coe_mul, if_neg h0, if_neg h1, ← EReal.coe_inv, ← EReal.coe_inv, mul_inv, EReal.coe_mul, mul_comm (c : EReal) A, mul_assoc,
    ← mul_assoc (c : EReal), ← EReal.coe_mul, mul_inv_cancel₀ hc.ne', EReal.coe_one, one_mul]

theorem greatest_real (f : Fin 2048 → ℝ) : ∃ m : ℝ, (Finset.univ : Finset (Fin 2048)).fold max (⊥ : EReal) (fun n => (f n : EReal)) = m := by
  have h1 : (Finset.univ : Finset (Fin 2048)).fold max (⊥ : EReal) (fun n => (f n : EReal)) < ⊤ :=
    (Finset.fold_max_lt _).mpr ⟨bot_lt_top, fun n _ => EReal.coe_lt_top _⟩
  have h2 : ⊥ < (Finset.univ : Finset (Fin 2048)).fold max (⊥ : EReal) (fun n => (f n : EReal)) :=
    (Finset.lt_fold_max _).mpr (.inr ⟨0, Finset.mem_univ _, EReal.bot_lt_coe _⟩)
  exact ⟨_, (EReal.coe_toReal h1.ne h2.ne').symm⟩

/-- With finite scores the shifted softmax is the plain one; the values may be anything. -/
theorem softAttend_eq (s v : Fin 2048 → EReal) (hs : ∀ n, ∃ a : ℝ, s n = a) : softAttend s v = attend s v := by
  choose f hf using hs
  obtain rfl : s = fun n => (f n : EReal) := funext hf
  obtain ⟨m, hm⟩ := greatest_real f
  unfold softAttend attend
  rw [hm]
  have he (n : Fin 2048) : Ideal.exp ((f n : EReal) - m) = ((Real.exp (-m) : ℝ) : EReal) * Ideal.exp (f n) := by
    rw [← EReal.coe_sub, Ideal.exp_coe, Ideal.exp_coe, ← EReal.coe_mul, ← Real.exp_add]
    exact congrArg (fun a : ℝ => ((Real.exp a : ℝ) : EReal)) (by ring)
  simp only [he, mul_assoc]
  rw [sum_scale _ _ (Real.exp_pos _), sum_scale _ _ (Real.exp_pos _)]
  simp only [Ideal.exp_coe]
  rw [sum_real]
  exact div_scale _ _ (Real.exp_pos _) (Finset.sum_pos (fun n _ => Real.exp_pos _) ⟨0, Finset.mem_univ _⟩) _

/-! ## Finite operands make finite scores -/

theorem real_sum {ι : Type} (s : Finset ι) (f : ι → EReal) (h : ∀ n, ∃ a : ℝ, f n = a) : ∃ a : ℝ, ∑ n ∈ s, f n = a := by
  choose g hg using h
  exact ⟨_, (Finset.sum_congr rfl fun n _ => hg n).trans (sum_real s g)⟩

theorem real_mul {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩

theorem scl_real : ∃ a : ℝ, scl = a := by
  unfold scl
  simp only [Ideal.ofBits, Ideal.ieee]
  norm_num
  exact ⟨_, rfl⟩

theorem score_real (q k : Fin 128 → EReal) (hq : ∀ d, ∃ a : ℝ, q d = a) (hk : ∀ d, ∃ a : ℝ, k d = a) : ∃ a : ℝ, score q k = a :=
  real_mul (real_sum _ _ fun d => real_mul (hq d) (hk d)) scl_real

end Cert.RingProof

end
-- ==== Proof.Join.lean ====
/-
  The device's answers are the blocks of the reference's answer.
-/
module

public import proofs.«01_k».proof.Proof.Shift
public import proofs.«01_k».proof.Proof.Launch
public import proofs.«01_k».proof.Pre_finite_KernelIdeal
public import Idealize.ShloMosaic.Lib.Layout
public import Idealize.ShloMosaic.Lib.ReduceAll

@[expose] public section

noncomputable section

namespace Cert.RingProof

open Idealize.ShloMosaic Idealize.ShloMosaic.ValueIdx
open Idealize.ShloMosaic.TcCoe

/-! ## The heads' columns, device by device -/

/-- Column `j` of device `d`'s block. -/
def devCol (d : Fin 16) (j : Fin 1024) : Fin 16384 := ⟨d.val * 1024 + j.val, by have := d.isLt; have := j.isLt; omega⟩
/-- Row `r` of device `c`'s block. -/
def devRow (c : Fin 16) (r : Fin 512) : Fin 8192 := ⟨c.val * 512 + r.val, by have := c.isLt; have := r.isLt; omega⟩

theorem sum_devCol (f : Fin 16384 → EReal) : ∑ J, f J = ∑ d : Fin 16, ∑ j : Fin 1024, f (devCol d j) := by
  rw [← Fintype.sum_prod_type' (fun d j => f (devCol d j))]
  refine (Fintype.sum_bijective (fun p : Fin 16 × Fin 1024 => devCol p.1 p.2) ⟨fun p q h => ?_, fun J => ?_⟩ _ _ fun _ => rfl).symm
  · have h' : p.1.val * 1024 + p.2.val = q.1.val * 1024 + q.2.val := congrArg Fin.val h
    have := p.2.isLt; have := q.2.isLt
    exact Prod.ext (Fin.ext (by omega)) (Fin.ext (by omega))
  · have := J.isLt
    exact ⟨(⟨J.val / 1024, by omega⟩, ⟨J.val % 1024, Nat.mod_lt _ (by decide)⟩), Fin.ext (show J.val / 1024 * 1024 + J.val % 1024 = J.val by omega)⟩

theorem wideCol_devCol (d : Fin 16) (j : Fin 1024) (e : Fin 128) (h) : wideCol ⟨(devCol d j).val / 128, h⟩ e = devCol d (headCol j e) :=
  Fin.ext (show 128 * ((d.val * 1024 + j.val) / 128) + e.val = d.val * 1024 + (128 * (j.val / 128) + e.val) by omega)

/-- The answer of device `c` is its rows of the reference's answer, the operands being blocks and the scores finite. -/
theorem answer_eq (S : Dev Cert.KernelIdeal.nD → Stg Ideal)
    (x : (⟨2, ![8192, 1024]⟩ : Shape).Idx → EReal) (wq : (⟨2, ![1024, 16384]⟩ : Shape).Idx → EReal) (wo : (⟨2, ![16384, 1024]⟩ : Shape).Idx → EReal)
    (kk vv : (⟨2, ![2048, 16384]⟩ : Shape).Idx → EReal)
    (hx : ∀ c r k, (S c).x (ix2 r k) = x (ix2 (devRow c r) k)) (hq : ∀ d k j, (S d).wq (ix2 k j) = wq (ix2 k (devCol d j)))
    (ho : ∀ d j l, (S d).wo (ix2 j l) = wo (ix2 (devCol d j) l)) (hk : ∀ d n j, (S d).kk (ix2 n j) = kk (ix2 n (devCol d j)))
    (hv : ∀ d n j, (S d).vv (ix2 n j) = vv (ix2 n (devCol d j)))
    (fx : ∀ c r k, ∃ a : ℝ, x (ix2 (devRow c r) k) = a) (fq : ∀ d k j, ∃ a : ℝ, wq (ix2 k (devCol d j)) = a) (fk : ∀ d n j, ∃ a : ℝ, kk (ix2 n (devCol d j)) = a)
    (c : Dev Cert.KernelIdeal.nD) (r : Fin 512) (l : Fin 1024) :
    Cert.KernelIdeal.Gen.k0_pay34 (F := Ideal) (accOf S 15 (prv c)) (ix2 r l) = refAns (F := Ideal) x wq wo kk vv (ix2 (devRow c r) l) := by
  rw [answer_apply, refAns_apply, sum_devCol]
  refine Finset.sum_congr rfl fun d _ => ?_
  unfold shareAt
  refine Finset.sum_congr rfl fun j _ => ?_
  simp only [wideCol_devCol, hx, hq, ho, hk, hv]
  rw [softAttend_eq]
  exact fun n => score_real _ _ (fun e => real_sum _ _ fun k => real_mul (fx c r k) (fq d k _)) (fun e => fk d n _)

/-! ## The precondition's reading -/

theorem real_of_abs (x : EReal) (h : Ideal.cmp .olt (max x (-x)) (Ideal.ofBits .bf16 0x7F80#16) = 1#1) : ∃ a : ℝ, x = a := by
  have ht : Ideal.ofBits .bf16 0x7F80#16 = (⊤ : EReal) := by simp [Ideal.ofBits, Ideal.ieee]
  rw [ht] at h
  induction x using EReal.rec with
  | bot => simp [Ideal.cmp] at h
  | coe a => exact ⟨a, rfl⟩
  | top => simp [Ideal.cmp] at h

theorem all_real {s : Shape} {axes : List (Fin s.rank)} (x : FVec Ideal s .bf16) (hb : (⟨0, ![]⟩ : Shape).BroadcastsInDim s ![])
    (h : s.ReducesTo axes (⟨0, ![]⟩ : Shape)) (hu : 0 < (⟨0, ![]⟩ : Shape).numel) (j : (⟨0, ![]⟩ : Shape).Idx)
    (e : Host.reduce IntOp.andi (cmpf .olt (Host.absf x) (broadcastInDim s ![] hb (constant (F := Ideal) (⟨0, ![]⟩ : Shape) .bf16 0x7F80#16))) (constantI (⟨0, ![]⟩ : Shape) 1 1#1) h hu j = 1#1)
    (i : s.Idx) : ∃ a : ℝ, x i = a := by
  haveI : Subsingleton (⟨0, ![]⟩ : Shape).Idx := ⟨fun a b => funext fun k => k.elim0⟩
  have := Host.reduce_andi_all _ _ h hu j e i
  exact real_of_abs (x i) this

theorem finite_reads [Cert.Pre_finite_KernelIdeal.Facts] (x : FVec Ideal ⟨2, ![512, 1024]⟩ .bf16) (wq wo : FVec Ideal ⟨2, ![1024, 1024]⟩ .bf16)
    (kk vv : FVec Ideal ⟨2, ![2048, 1024]⟩ .bf16) (h : Cert.Pre_finite_KernelIdeal.fn (F := Ideal) x wq wo kk vv = fun _ => 1#1) :
    (∀ i, ∃ a : ℝ, x i = a) ∧ (∀ i, ∃ a : ℝ, wq i = a) ∧ (∀ i, ∃ a : ℝ, kk i = a) := by
  have h0 := congrFun h ix0
  unfold Cert.Pre_finite_KernelIdeal.fn at h0
  obtain ⟨h1, h2⟩ := IntOp.andi_eq_one.1 h0
  obtain ⟨h3, h4⟩ := IntOp.andi_eq_one.1 h1
  exact ⟨fun i => all_real x _ _ _ ix0 h3 i, fun i => all_real wq _ _ _ ix0 h4 i, fun i => all_real kk _ _ _ ix0 h2 i⟩

/-! ## A block at an entry -/

theorem block_rows {M N B : ℕ} (c : Fin 16) (v : (⟨2, ![M, N]⟩ : Shape).Idx → EReal) (h : Layout.Tiles ⟨2, ![B, N]⟩ ⟨2, ![M, N]⟩ 0 16) (r : Fin B) (l : Fin N)
    (R : Fin M) (hR : R.val = c.val * B + r.val) : Layout.block ⟨2, ![B, N]⟩ ⟨2, ![M, N]⟩ 0 16 c v h (ix2 r l) = v (ix2 R l) := by
  refine congrArg v (funext fun a => Fin.ext ?_)
  match a with
  | ⟨0, _⟩ => exact hR.symm
  | ⟨1, _⟩ => rfl

theorem block_cols {M N B : ℕ} (c : Fin 16) (v : (⟨2, ![M, N]⟩ : Shape).Idx → EReal) (h : Layout.Tiles ⟨2, ![M, B]⟩ ⟨2, ![M, N]⟩ 1 16) (r : Fin M) (l : Fin B)
    (C : Fin N) (hC : C.val = c.val * B + l.val) : Layout.block ⟨2, ![M, B]⟩ ⟨2, ![M, N]⟩ 1 16 c v h (ix2 r l) = v (ix2 r C) := by
  refine congrArg v (funext fun a => Fin.ext ?_)
  match a with
  | ⟨0, _⟩ => rfl
  | ⟨1, _⟩ => exact hC.symm

end Cert.RingProof

end
-- ==== Proof.Algebraic.lean ====
/-
  The kernel on the mesh computes the reference's answer, block by block.
-/
module

public import proofs.«01_k».proof.Defs
public import proofs.«01_k».proof.Proof.Join
public import proofs.«01_k».proof.Proof.Frames

@[expose] public section

noncomputable section

namespace Cert.RingProof

open Cert.KernelIdeal Cert.KernelIdeal.Gen

open Idealize.ShloMosaic Idealize.ShloMosaic.ValueIdx
open Idealize.ShloMosaic.TcCoe
open Idealize.SL.Sem

/-! ## The arrays before and after -/

section
variable {F : FTy → Type} [FloatOps F] (m : (ℓ : Loc nD τ sig) → Buf (Elt F) ℓ) (ρ : Dev nD → PrngReg)

theorem stg_x (c : Dev nD) : (stgOf m c).x = m ((c : Thread nD τ).loc main_arg0) :=
  funext fun i => congrArg (m ((c : Thread nD τ).loc main_arg0)) (funext fun a => Fin.ext (match a with
    | ⟨0, _⟩ => (show 0 * _ + 1 * (i 0).val = (i 0).val by omega)
    | ⟨1, _⟩ => (show 0 * _ + 1 * (i 1).val = (i 1).val by omega)))
theorem stg_wq (c : Dev nD) : (stgOf m c).wq = m ((c : Thread nD τ).loc main_arg1) :=
  funext fun i => congrArg (m ((c : Thread nD τ).loc main_arg1)) (funext fun a => Fin.ext (match a with
    | ⟨0, _⟩ => (show 0 * _ + 1 * (i 0).val = (i 0).val by omega)
    | ⟨1, _⟩ => (show 0 * _ + 1 * (i 1).val = (i 1).val by omega)))
theorem stg_wo (c : Dev nD) : (stgOf m c).wo = m ((c : Thread nD τ).loc main_arg2) :=
  funext fun i => congrArg (m ((c : Thread nD τ).loc main_arg2)) (funext fun a => Fin.ext (match a with
    | ⟨0, _⟩ => (show 0 * _ + 1 * (i 0).val = (i 0).val by omega)
    | ⟨1, _⟩ => (show 0 * _ + 1 * (i 1).val = (i 1).val by omega)))
theorem stg_kk (c : Dev nD) : (stgOf m c).kk = m ((c : Thread nD τ).loc main_arg3) :=
  funext fun i => congrArg (m ((c : Thread nD τ).loc main_arg3)) (funext fun a => Fin.ext (match a with
    | ⟨0, _⟩ => (show 0 * _ + 1 * (i 0).val = (i 0).val by omega)
    | ⟨1, _⟩ => (show 0 * _ + 1 * (i 1).val = (i 1).val by omega)))
theorem stg_vv (c : Dev nD) : (stgOf m c).vv = m ((c : Thread nD τ).loc main_arg4) :=
  funext fun i => congrArg (m ((c : Thread nD τ).loc main_arg4)) (funext fun a => Fin.ext (match a with
    | ⟨0, _⟩ => (show 0 * _ + 1 * (i 0).val = (i 0).val by omega)
    | ⟨1, _⟩ => (show 0 * _ + 1 * (i 1).val = (i 1).val by omega)))

/-- The result array is written whole. -/
theorem finalA_out (c : Dev nD) : finalA m ρ c 5 = outAt m c := by
  unfold finalA
  rw [show cfg0.N = t0_0.val + 1 from rfl, (dats m ρ 0 c).arrAt_succ 5 t0_0, if_pos (flush0_5 _)]
  exact Memref.write_access_unit_zero_univ (Elt F) main_v1 (funext fun a => match a with | ⟨0, _⟩ => rfl | ⟨1, _⟩ => rfl) _ _ (outAt m c)
end

/-! ## The claim -/

theorem algebraic : Cert.algebraic_KernelIdeal_ReferenceIdeal_pre_finite_KernelIdeal := by
  intro m g m' g' hpre hb
  have hf (c : Dev nD) := finite_reads _ _ _ _ _ (hpre c)
  set x := m' (((0 : Dev Cert.ReferenceIdeal.nD).tc : Thread Cert.ReferenceIdeal.nD Cert.ReferenceIdeal.τ).loc Cert.ReferenceIdeal.main_arg0) with ex
  set wq := m' (((0 : Dev Cert.ReferenceIdeal.nD).tc : Thread Cert.ReferenceIdeal.nD Cert.ReferenceIdeal.τ).loc Cert.ReferenceIdeal.main_arg1) with eq
  set wo := m' (((0 : Dev Cert.ReferenceIdeal.nD).tc : Thread Cert.ReferenceIdeal.nD Cert.ReferenceIdeal.τ).loc Cert.ReferenceIdeal.main_arg2) with eo
  set kk := m' (((0 : Dev Cert.ReferenceIdeal.nD).tc : Thread Cert.ReferenceIdeal.nD Cert.ReferenceIdeal.τ).loc Cert.ReferenceIdeal.main_arg3) with ek
  set vv := m' (((0 : Dev Cert.ReferenceIdeal.nD).tc : Thread Cert.ReferenceIdeal.nD Cert.ReferenceIdeal.τ).loc Cert.ReferenceIdeal.main_arg4) with ev
  have hx (c r k) : (stgOf m c).x (ix2 r k) = x (ix2 (devRow c r) k) := by
    rw [stg_x, (hb c).1]; exact block_rows c x _ r k _ rfl
  have hq (d k j) : (stgOf m d).wq (ix2 k j) = wq (ix2 k (devCol d j)) := by
    rw [stg_wq, (hb d).2.1]; exact block_cols d wq _ k j _ rfl
  have ho (d j l) : (stgOf m d).wo (ix2 j l) = wo (ix2 (devCol d j) l) := by
    rw [stg_wo, (hb d).2.2.1]; exact block_rows d wo _ j l _ rfl
  have hk (d n j) : (stgOf m d).kk (ix2 n j) = kk (ix2 n (devCol d j)) := by
    rw [stg_kk, (hb d).2.2.2.1]; exact block_cols d kk _ n j _ rfl
  have hv (d n j) : (stgOf m d).vv (ix2 n j) = vv (ix2 n (devCol d j)) := by
    rw [stg_vv, (hb d).2.2.2.2]; exact block_cols d vv _ n j _ rfl
  have fx (c r k) : ∃ a : ℝ, x (ix2 (devRow c r) k) = (a : EReal) := by
    rw [← hx c r k, stg_x]; exact (hf c).1 _
  have fq (d k j) : ∃ a : ℝ, wq (ix2 k (devCol d j)) = (a : EReal) := by
    rw [← hq d k j, stg_wq]; exact (hf d).2.1 _
  have fk (d n j) : ∃ a : ℝ, kk (ix2 n (devCol d j)) = (a : EReal) := by
    rw [← hk d n j, stg_kk]; exact (hf d).2.2 _
  refine ⟨refAns (F := Ideal) x wq wo kk vv, ?_, ?_⟩
  · refine (θ_run _ _ _).mono (fun r h c => ⟨?_, ?_, ?_, ?_, ?_, ?_⟩) (run_main (F := Ideal) m g)
    · refine (h.1 c 5).trans ((finalA_out m g c).trans (funext fun i => ?_))
      obtain ⟨a, b, rfl⟩ : ∃ (a : Fin 512) (b : Fin 1024), i = ix2 a b := ⟨i 0, i 1, eq_ix2 i⟩
      exact (answer_eq (stgOf m) x wq wo kk vv hx hq ho hk hv fx fq fk c a b).trans (block_rows c _ _ a b _ rfl).symm
    · exact (h.1 c 0).trans (finalA_in m g c 0 rfl)
    · exact (h.1 c 1).trans (finalA_in m g c 1 rfl)
    · exact (h.1 c 2).trans (finalA_in m g c 2 rfl)
    · exact (h.1 c 3).trans (finalA_in m g c 3 rfl)
    · exact (h.1 c 4).trans (finalA_in m g c 4 rfl)
  · exact (θ_run _ _ _).mono (fun r h => h 0) (run_reference (F := Ideal) m' g')

end Cert.RingProof

end
-- ==== Proof.lean ====
/-
  The claims: the frames, and that the kernel on the mesh computes the reference's answer.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.RingProof.preFacts, Cert.RingProof.preFactsReference,
    Cert.RingProof.frame_kernel, Cert.RingProof.frame_ideal, Cert.RingProof.frame_ideal_finite, Cert.RingProof.frame_reference,
    Cert.RingProof.frame_reference_finite, trivial, Cert.RingProof.algebraic⟩

end Cert.Proof

end
